-- ==== Defs.lean ====
def Pre_Kernel [hPre_inputs_ok : Cert.Pre_inputs_ok.Facts] (m : (ℓ : Loc Cert.Kernel.nD Cert.Kernel.τ Cert.Kernel.sig) → Buf (Elt Bits) ℓ) : Prop :=
  ∀ c : Dev Cert.Kernel.nD,
    (Cert.Pre_inputs_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_inputs_ok : Cert.Pre_inputs_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "qk_scale" .f32 0x3E38AA3B#32 (((Real.log 2)⁻¹ * (Real.sqrt 64)⁻¹ : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_inputs_ok : Cert.Pre_inputs_ok.Facts) (hPre_inputs_finite : Cert.Pre_inputs_finite.Facts),
    quiescent_Kernel (hKernel := hKernel) (hPre_inputs_ok := hPre_inputs_ok)
    ∧ quiescent_KernelIdeal (hKernelIdeal := hKernelIdeal) (hPre_inputs_ok := hPre_inputs_ok)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S1x4096x1024 : Shape := ⟨3, ![1, 4096, 1024]⟩
abbrev S1x16 : Shape := ⟨2, ![1, 16]⟩
abbrev S1024x1024 : Shape := ⟨2, ![1024, 1024]⟩
abbrev S_ : Shape := ⟨0, ![]⟩

class Facts : Prop where
  bcast_S_S1x16 : S_.BroadcastsInDim S1x16 (![] : Fin 0 → Fin S1x16.rank)
  reducesTo_S1x16_S_d0_1 : S1x16.ReducesTo [0, 1] S_
  h_S_ : 0 < S_.numel
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v5 : IVec S_ 1) (main_v14 : IVec S_ 1) (main_v15 : FVec F S1024x1024 .f32) (main_cst_5 : FVec F S_ .f32) : IVec S_ 1 :=
  let main_v16 : FVec F S1024x1024 .f32 := broadcastInDim S1024x1024 ![] bcast_S_S1024x1024 main_cst_5
  let main_v17 : IVec S1024x1024 1 := cmpf .olt main_v15 main_v16
  let main_c_6 : IVec S_ 1 := constantI S_ 1 1#1
  let main_v18 : IVec S_ 1 := (fun x v => Host.reduce IntOp.andi x v reducesTo_S1024x1024_S_d0_1 h_S_) main_v17 main_c_6
  let main_v19 : IVec S_ 1 := andi main_v14 main_v18
  let main_v20 : IVec S_ 1 := andi main_v5 main_v19
  main_v20

def fn {F : FTy → Type} [FloatOps F] (main_arg0 : FVec F S1x4096x1024 .f32) (main_arg1 : IVec S1x16 32) (main_arg2 : FVec F S1024x1024 .f32) (main_arg3 : FVec F S1024x1024 .f32) (main_arg4 : FVec F S1024x1024 .f32) (main_arg5 : FVec F S1024x1024 .f32) : IVec S_ 1 :=
  let main_c : IVec S_ 32 := constantI S_ 32 0#32
  let main_v0 : IVec S1x16 32 := broadcastInDim S1x16 ![] bcast_S_S1x16 main_c
  let main_v1 : IVec S1x16 1 := cmpi .sge main_arg1 main_v0
  let main_c_0 : IVec S_ 32 := constantI S_ 32 512#32
  let main_v2 : IVec S1x16 32 := broadcastInDim S1x16 ![] bcast_S_S1x16 main_c_0
  let main_v3 : IVec S1x16 1 := cmpi .slt main_arg1 main_v2
  let main_v4 : IVec S1x16 1 := andi main_v1 main_v3
  let main_c_1 : IVec S_ 1 := constantI S_ 1 1#1
  let main_v5 : IVec S_ 1 := (fun x v => Host.reduce IntOp.andi x v reducesTo_S1x16_S_d0_1 h_S_) main_v4 main_c_1
  let main_v6 : FVec F S1x4096x1024 .f32 := Host.absf main_arg0
  let main_cst : FVec F S_ .f32 := constant S_ .f32 0x7F800000#32
  let main_v7 : FVec F S1x4096x1024 .f32 := broadcastInDim S1x4096x1024 ![] bcast_S_S1x4096x1024 main_cst
  let main_v8 : IVec S1x4096x1024 1 := cmpf .olt main_v6 main_v7
  let main_c_2 : IVec S_ 1 := constantI S_ 1 1#1
  let main_v9 : IVec S_ 1 := (fun x v => Host.reduce IntOp.andi x v reducesTo_S1x4096x1024_S_d0_1_2 h_S_) main_v8 main_c_2
  let main_v10 : FVec F S1024x1024 .f32 := Host.absf main_arg2
  let main_cst_3 : FVec F S_ .f32 := constant S_ .f32 0x7F800000#32
  let main_v11 : FVec F S1024x1024 .f32 := broadcastInDim S1024x1024 ![] bcast_S_S1024x1024 main_cst_3
  let main_v12 : IVec S1024x1024 1 := cmpf .olt main_v10 main_v11
  let main_c_4 : IVec S_ 1 := constantI S_ 1 1#1
  let main_v13 : IVec S_ 1 := (fun x v => Host.reduce IntOp.andi x v reducesTo_S1024x1024_S_d0_1 h_S_) main_v12 main_c_4
  let main_v14 : IVec S_ 1 := andi main_v9 main_v13
  let main_v15 : FVec F S1024x1024 .f32 := Host.absf main_arg3
  let main_cst_5 : FVec F S_ .f32 := constant S_ .f32 0x7F800000#32
  fn_part1 (F := F) main_v5 main_v14 main_v15 main_cst_5
-- ==== Pre_inputs_ok.lean ====
abbrev S1x4096x1024 : Shape := ⟨3, ![1, 4096, 1024]⟩
abbrev S1x16 : Shape := ⟨2, ![1, 16]⟩
abbrev S1024x1024 : Shape := ⟨2, ![1024, 1024]⟩
abbrev S_ : Shape := ⟨0, ![]⟩

class Facts : Prop where
  bcast_S_S1x16 : S_.BroadcastsInDim S1x16 (![] : Fin 0 → Fin S1x16.rank)

variable [Facts]

def fn {F : FTy → Type} [FloatOps F] (main_arg0 : FVec F S1x4096x1024 .f32) (main_arg1 : IVec S1x16 32) (main_arg2 : FVec F S1024x1024 .f32) (main_arg3 : FVec F S1024x1024 .f32) (main_arg4 : FVec F S1024x1024 .f32) (main_arg5 : FVec F S1024x1024 .f32) : IVec S1x16 1 :=
  let main_c : IVec S_ 32 := constantI S_ 32 0#32
  let main_v0 : IVec S1x16 32 := broadcastInDim S1x16 ![] bcast_S_S1x16 main_c
  let main_v1 : IVec S1x16 1 := cmpi .sge main_arg1 main_v0
  let main_c_0 : IVec S_ 32 := constantI S_ 32 512#32
  let main_v2 : IVec S1x16 32 := broadcastInDim S1x16 ![] bcast_S_S1x16 main_c_0
  let main_v3 : IVec S1x16 1 := cmpi .slt main_arg1 main_v2
  let main_v4 : IVec S1x16 1 := andi main_v1 main_v3
  main_v4
-- ==== Kernel.lean ====
abbrev S1x4096x1024 : Shape := ⟨3, ![1, 4096, 1024]⟩
abbrev S1x16 : Shape := ⟨2, ![1, 16]⟩
abbrev S1024x1024 : Shape := ⟨2, ![1024, 1024]⟩
abbrev S4096x1024 : Shape := ⟨2, ![4096, 1024]⟩
abbrev S16x1024 : Shape := ⟨2, ![16, 1024]⟩
abbrev S512x1024 : Shape := ⟨2, ![512, 1024]⟩
abbrev S1x1 : Shape := ⟨2, ![1, 1]⟩
abbrev S1x1024 : Shape := ⟨2, ![1, 1024]⟩
abbrev S256x1024 : Shape := ⟨2, ![256, 1024]⟩
abbrev S256x768 : Shape := ⟨2, ![256, 768]⟩
abbrev S256x64 : Shape := ⟨2, ![256, 64]⟩
abbrev S768x64 : Shape := ⟨2, ![768, 64]⟩
abbrev S16x64 : Shape := ⟨2, ![16, 64]⟩
abbrev S256x16 : Shape := ⟨2, ![256, 16]⟩
abbrev S256 : Shape := ⟨1, ![256]⟩
abbrev S256x1 : Shape := ⟨2, ![256, 1]⟩

abbrev nBuf : Space → Nat
  | .hbm => 14
  | .vmem => 22
  | .smem => 1
  | _ => 0

abbrev bufTy : (tb : Table) → Fin (tcTables nBuf tb) → BufTy
  | .hbm, ⟨0, _⟩ => ⟨S1x4096x1024, .f32⟩
  | .hbm, ⟨1, _⟩ => ⟨S1x16, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S4096x1024, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S16x1024, .bf16⟩
  | .hbm, ⟨11, _⟩ => ⟨S16x1024, .bf16⟩
  | .hbm, ⟨12, _⟩ => ⟨S4096x1024, .f32⟩
  | .hbm, ⟨13, _⟩ => ⟨S1x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S16x1024, .bf16⟩
  | .local _ .vmem, ⟨12, _⟩ => ⟨S16x1024, .bf16⟩
  | .local _ .vmem, ⟨13, _⟩ => ⟨S256x1024, .bf16⟩
  | .local _ .vmem, ⟨14, _⟩ => ⟨S256x1024, .bf16⟩
  | .local _ .vmem, ⟨15, _⟩ => ⟨S4096x1024, .bf16⟩
  | .local _ .vmem, ⟨16, _⟩ => ⟨S4096x1024, .bf16⟩
  | .local _ .vmem, ⟨17, _⟩ => ⟨S16x1024, .bf16⟩
  | .local _ .vmem, ⟨18, _⟩ => ⟨S16x1024, .bf16⟩
  | .local _ .vmem, ⟨19, _⟩ => ⟨S1024x1024, .f32⟩
  | .local _ .vmem, ⟨20, _⟩ => ⟨S256x1024, .f32⟩
  | .local _ .vmem, ⟨21, _⟩ => ⟨S256x1024, .f32⟩
  | .local _ .smem, ⟨0, _⟩ => ⟨S1x16, .i32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0_0 : Ref sig .tc := ⟨.hbm, 7, rfl⟩
abbrev main_call0_v0_1 : Ref sig .tc := ⟨.hbm, 8, rfl⟩
abbrev main_call0_v0_2 : Ref sig .tc := ⟨.hbm, 9, rfl⟩
abbrev main_call0_v0_3 : Ref sig .tc := ⟨.hbm, 10, rfl⟩
abbrev main_call0_v0_4 : Ref sig .tc := ⟨.hbm, 11, rfl⟩
abbrev main_v1 : Ref sig .tc := ⟨.hbm, 12, rfl⟩
abbrev main_v2 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v20 : BitVec 1 := Scalar.cmpi .eq arg0 c0_i32
  let v21 : BitVec 32 := Scalar.extui v20
  let c0_i32_16 : BitVec 32 := 0#32
  let v22 : BitVec 1 := Scalar.cmpi .ne v21 c0_i32_16
  v22

def k0_off1 (v23 : BitVec 32) : Fin 2 → Nat :=
  let v24 : Index := Scalar.indexCast v23
  let c0_19 : Index := 0#32
  ![v24.toNat, 0]

def k0_chk1 (i : grid0.Coords) (v23 : BitVec 32) : Prop :=
  (∀ (k0_h1 : k0_cond1 i = 1#1), ∀ a, (k0_off1 v23) a + S1x1024.size a ≤ S512x1024.size a)
theorem k0_off1_inb : ∀ (i : grid0.Coords) (v23 : BitVec 32) (k0_hw1 : k0_chk1 i v23), ∀ (k0_h1 : k0_cond1 i = 1#1), ∀ a, (k0_off1 v23) a + S1x1024.size a ≤ S512x1024.size a := fun i v23 k0_hw1 k0_h1 => k0_hw1 k0_h1

def k0_off2 (v27 : BitVec 32) : Fin 2 → Nat :=
  let v28 : Index := Scalar.indexCast v27
  let c0_21 : Index := 0#32
  ![v28.toNat, 0]

def k0_chk2 (i : grid0.Coords) (v27 : BitVec 32) : Prop :=
  (∀ (k0_h1 : k0_cond1 i = 1#1), ∀ a, (k0_off2 v27) a + S1x1024.size a ≤ S512x1024.size a)
theorem k0_off2_inb : ∀ (i : grid0.Coords) (v27 : BitVec 32) (k0_hw2 : k0_chk2 i v27), ∀ (k0_h1 : k0_cond1 i = 1#1), ∀ a, (k0_off2 v27) a + S1x1024.size a ≤ S512x1024.size a := fun i v27 k0_hw2 k0_h1 => k0_hw2 k0_h1

def k0_off3 (v31 : BitVec 32) : Fin 2 → Nat :=
  let v32 : Index := Scalar.indexCast v31
  let c0_23 : Index := 0#32
  ![v32.toNat, 0]

def k0_chk3 (i : grid0.Coords) (v31 : BitVec 32) : Prop :=
  (∀ (k0_h1 : k0_cond1 i = 1#1), ∀ a, (k0_off3 v31) a + S1x1024.size a ≤ S512x1024.size a)
theorem k0_off3_inb : ∀ (i : grid0.Coords) (v31 : BitVec 32) (k0_hw3 : k0_chk3 i v31), ∀ (k0_h1 : k0_cond1 i = 1#1), ∀ a, (k0_off3 v31) a + S1x1024.size a ≤ S512x1024.size a := fun i v31 k0_hw3 k0_h1 => k0_hw3 k0_h1

def k0_off4 (v35 : BitVec 32) : Fin 2 → Nat :=
  let v36 : Index := Scalar.indexCast v35
  let c0_25 : Index := 0#32
  ![v36.toNat, 0]

def k0_chk4 (i : grid0.Coords) (v35 : BitVec 32) : Prop :=
  (∀ (k0_h1 : k0_cond1 i = 1#1), ∀ a, (k0_off4 v35) a + S1x1024.size a ≤ S512x1024.size a)
theorem k0_off4_inb : ∀ (i : grid0.Coords) (v35 : BitVec 32) (k0_hw4 : k0_chk4 i v35), ∀ (k0_h1 : k0_cond1 i = 1#1), ∀ a, (k0_off4 v35) a + S1x1024.size a ≤ S512x1024.size a := fun i v35 k0_hw4 k0_h1 => k0_hw4 k0_h1

def k0_off5 (v39 : BitVec 32) : Fin 2 → Nat :=
  let v40 : Index := Scalar.indexCast v39
  let c0_27 : Index := 0#32
  ![v40.toNat, 0]

def k0_chk5 (i : grid0.Coords) (v39 : BitVec 32) : Prop :=
  (∀ (k0_h1 : k0_cond1 i = 1#1), ∀ a, (k0_off5 v39) a + S1x1024.size a ≤ S512x1024.size a)
theorem k0_off5_inb : ∀ (i : grid0.Coords) (v39 : BitVec 32) (k0_hw5 : k0_chk5 i v39), ∀ (k0_h1 : k0_cond1 i = 1#1), ∀ a, (k0_off5 v39) a + S1x1024.size a ≤ S512x1024.size a := fun i v39 k0_hw5 k0_h1 => k0_hw5 k0_h1

def k0_off6 (v43 : BitVec 32) : Fin 2 → Nat :=
  let v44 : Index := Scalar.indexCast v43
  let c0_29 : Index := 0#32
  ![v44.toNat, 0]

def k0_chk6 (i : grid0.Coords) (v43 : BitVec 32) : Prop :=
  (∀ (k0_h1 : k0_cond1 i = 1#1), ∀ a, (k0_off6 v43) a + S1x1024.size a ≤ S512x1024.size a)
theorem k0_off6_inb : ∀ (i : grid0.Coords) (v43 : BitVec 32) (k0_hw6 : k0_chk6 i v43), ∀ (k0_h1 : k0_cond1 i = 1#1), ∀ a, (k0_off6 v43) a + S1x1024.size a ≤ S512x1024.size a := fun i v43 k0_hw6 k0_h1 => k0_hw6 k0_h1

def k0_off7 (v47 : BitVec 32) : Fin 2 → Nat :=
  let v48 : Index := Scalar.indexCast v47
  let c0_31 : Index := 0#32
  ![v48.toNat, 0]

def k0_chk7 (i : grid0.Coords) (v47 : BitVec 32) : Prop :=
  (∀ (k0_h1 : k0_cond1 i = 1#1), ∀ a, (k0_off7 v47) a + S1x1024.size a ≤ S512x1024.size a)
theorem k0_off7_inb : ∀ (i : grid0.Coords) (v47 : BitVec 32) (k0_hw7 : k0_chk7 i v47), ∀ (k0_h1 : k0_cond1 i = 1#1), ∀ a, (k0_off7 v47) a + S1x1024.size a ≤ S512x1024.size a := fun i v47 k0_hw7 k0_h1 => k0_hw7 k0_h1

def k0_off8 (v51 : BitVec 32) : Fin 2 → Nat :=
  let v52 : Index := Scalar.indexCast v51
  let c0_33 : Index := 0#32
  ![v52.toNat, 0]

def k0_chk8 (i : grid0.Coords) (v51 : BitVec 32) : Prop :=
  (∀ (k0_h1 : k0_cond1 i = 1#1), ∀ a, (k0_off8 v51) a + S1x1024.size a ≤ S512x1024.size a)
theorem k0_off8_inb : ∀ (i : grid0.Coords) (v51 : BitVec 32) (k0_hw8 : k0_chk8 i v51), ∀ (k0_h1 : k0_cond1 i = 1#1), ∀ a, (k0_off8 v51) a + S1x1024.size a ≤ S512x1024.size a := fun i v51 k0_hw8 k0_h1 => k0_hw8 k0_h1

def k0_off9 (v55 : BitVec 32) : Fin 2 → Nat :=
  let v56 : Index := Scalar.indexCast v55
  let c0_35 : Index := 0#32
  ![v56.toNat, 0]

def k0_chk9 (i : grid0.Coords) (v55 : BitVec 32) : Prop :=
  (∀ (k0_h1 : k0_cond1 i = 1#1), ∀ a, (k0_off9 v55) a + S1x1024.size a ≤ S512x1024.size a)
theorem k0_off9_inb : ∀ (i : grid0.Coords) (v55 : BitVec 32) (k0_hw9 : k0_chk9 i v55), ∀ (k0_h1 : k0_cond1 i = 1#1), ∀ a, (k0_off9 v55) a + S1x1024.size a ≤ S512x1024.size a := fun i v55 k0_hw9 k0_h1 => k0_hw9 k0_h1

def k0_off10 (v59 : BitVec 32) : Fin 2 → Nat :=
  let v60 : Index := Scalar.indexCast v59
  let c0_37 : Index := 0#32
  ![v60.toNat, 0]

def k0_chk10 (i : grid0.Coords) (v59 : BitVec 32) : Prop :=
  (∀ (k0_h1 : k0_cond1 i = 1#1), ∀ a, (k0_off10 v59) a + S1x1024.size a ≤ S512x1024.size a)
theorem k0_off10_inb : ∀ (i : grid0.Coords) (v59 : BitVec 32) (k0_hw10 : k0_chk10 i v59), ∀ (k0_h1 : k0_cond1 i = 1#1), ∀ a, (k0_off10 v59) a + S1x1024.size a ≤ S512x1024.size a := fun i v59 k0_hw10 k0_h1 => k0_hw10 k0_h1

def k0_off11 (v63 : BitVec 32) : Fin 2 → Nat :=
  let v64 : Index := Scalar.indexCast v63
  let c0_39 : Index := 0#32
  ![v64.toNat, 0]

def k0_chk11 (i : grid0.Coords) (v63 : BitVec 32) : Prop :=
  (∀ (k0_h1 : k0_cond1 i = 1#1), ∀ a, (k0_off11 v63) a + S1x1024.size a ≤ S512x1024.size a)
theorem k0_off11_inb : ∀ (i : grid0.Coords) (v63 : BitVec 32) (k0_hw11 : k0_chk11 i v63), ∀ (k0_h1 : k0_cond1 i = 1#1), ∀ a, (k0_off11 v63) a + S1x1024.size a ≤ S512x1024.size a := fun i v63 k0_hw11 k0_h1 => k0_hw11 k0_h1

def k0_off12 (v67 : BitVec 32) : Fin 2 → Nat :=
  let v68 : Index := Scalar.indexCast v67
  let c0_41 : Index := 0#32
  ![v68.toNat, 0]

def k0_chk12 (i : grid0.Coords) (v67 : BitVec 32) : Prop :=
  (∀ (k0_h1 : k0_cond1 i = 1#1), ∀ a, (k0_off12 v67) a + S1x1024.size a ≤ S512x1024.size a)
theorem k0_off12_inb : ∀ (i : grid0.Coords) (v67 : BitVec 32) (k0_hw12 : k0_chk12 i v67), ∀ (k0_h1 : k0_cond1 i = 1#1), ∀ a, (k0_off12 v67) a + S1x1024.size a ≤ S512x1024.size a := fun i v67 k0_hw12 k0_h1 => k0_hw12 k0_h1

def k0_off13 (v71 : BitVec 32) : Fin 2 → Nat :=
  let v72 : Index := Scalar.indexCast v71
  let c0_43 : Index := 0#32
  ![v72.toNat, 0]

def k0_chk13 (i : grid0.Coords) (v71 : BitVec 32) : Prop :=
  (∀ (k0_h1 : k0_cond1 i = 1#1), ∀ a, (k0_off13 v71) a + S1x1024.size a ≤ S512x1024.size a)
theorem k0_off13_inb : ∀ (i : grid0.Coords) (v71 : BitVec 32) (k0_hw13 : k0_chk13 i v71), ∀ (k0_h1 : k0_cond1 i = 1#1), ∀ a, (k0_off13 v71) a + S1x1024.size a ≤ S512x1024.size a := fun i v71 k0_hw13 k0_h1 => k0_hw13 k0_h1

def k0_off14 (v75 : BitVec 32) : Fin 2 → Nat :=
  let v76 : Index := Scalar.indexCast v75
  let c0_45 : Index := 0#32
  ![v76.toNat, 0]

def k0_chk14 (i : grid0.Coords) (v75 : BitVec 32) : Prop :=
  (∀ (k0_h1 : k0_cond1 i = 1#1), ∀ a, (k0_off14 v75) a + S1x1024.size a ≤ S512x1024.size a)
theorem k0_off14_inb : ∀ (i : grid0.Coords) (v75 : BitVec 32) (k0_hw14 : k0_chk14 i v75), ∀ (k0_h1 : k0_cond1 i = 1#1), ∀ a, (k0_off14 v75) a + S1x1024.size a ≤ S512x1024.size a := fun i v75 k0_hw14 k0_h1 => k0_hw14 k0_h1

def k0_off15 (v79 : BitVec 32) : Fin 2 → Nat :=
  let v80 : Index := Scalar.indexCast v79
  let c0_47 : Index := 0#32
  ![v80.toNat, 0]

def k0_chk15 (i : grid0.Coords) (v79 : BitVec 32) : Prop :=
  (∀ (k0_h1 : k0_cond1 i = 1#1), ∀ a, (k0_off15 v79) a + S1x1024.size a ≤ S512x1024.size a)
theorem k0_off15_inb : ∀ (i : grid0.Coords) (v79 : BitVec 32) (k0_hw15 : k0_chk15 i v79), ∀ (k0_h1 : k0_cond1 i = 1#1), ∀ a, (k0_off15 v79) a + S1x1024.size a ≤ S512x1024.size a := fun i v79 k0_hw15 k0_h1 => k0_hw15 k0_h1

def k0_off16 (v83 : BitVec 32) : Fin 2 → Nat :=
  let v84 : Index := Scalar.indexCast v83
  let c0_49 : Index := 0#32
  ![v84.toNat, 0]

def k0_chk16 (i : grid0.Coords) (v83 : BitVec 32) : Prop :=
  (∀ (k0_h1 : k0_cond1 i = 1#1), ∀ a, (k0_off16 v83) a + S1x1024.size a ≤ S512x1024.size a)
theorem k0_off16_inb : ∀ (i : grid0.Coords) (v83 : BitVec 32) (k0_hw16 : k0_chk16 i v83), ∀ (k0_h1 : k0_cond1 i = 1#1), ∀ a, (k0_off16 v83) a + S1x1024.size a ≤ S512x1024.size a := fun i v83 k0_hw16 k0_h1 => k0_hw16 k0_h1

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![16], ![false]⟩

def k1_mult1 (i : grid1.Coords) : BitVec 32 :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  v3
def k1_off1 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v21 : Index := Scalar.indexCast v4
  let c0_5 : Index := 0#32
  ![v21.toNat, 0]
def k1_off2 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v52 : Index := Scalar.indexCast v4
  let c64_18 : Index := 64#32
  ![v52.toNat, 64]
def k1_off3 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v83 : Index := Scalar.indexCast v4
  let c128_31 : Index := 128#32
  ![v83.toNat, 128]
def k1_off4 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v114 : Index := Scalar.indexCast v4
  let c192_44 : Index := 192#32
  ![v114.toNat, 192]
def k1_off5 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v145 : Index := Scalar.indexCast v4
  let c256_57 : Index := 256#32
  ![v145.toNat, 256]
def k1_off6 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v176 : Index := Scalar.indexCast v4
  let c320_70 : Index := 320#32
  ![v176.toNat, 320]
def k1_off7 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v207 : Index := Scalar.indexCast v4
  let c384_83 : Index := 384#32
  ![v207.toNat, 384]
def k1_off8 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v238 : Index := Scalar.indexCast v4
  let c448_96 : Index := 448#32
  ![v238.toNat, 448]
def k1_off9 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v269 : Index := Scalar.indexCast v4
  let c512_109 : Index := 512#32
  ![v269.toNat, 512]
def k1_off10 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v300 : Index := Scalar.indexCast v4
  let c576_122 : Index := 576#32
  ![v300.toNat, 576]
def k1_off11 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v331 : Index := Scalar.indexCast v4
  let c640_135 : Index := 640#32
  ![v331.toNat, 640]
def k1_off12 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v362 : Index := Scalar.indexCast v4
  let c704_148 : Index := 704#32
  ![v362.toNat, 704]
def k1_off13 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v393 : Index := Scalar.indexCast v4
  let c768_161 : Index := 768#32
  ![v393.toNat, 768]
def k1_off14 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v424 : Index := Scalar.indexCast v4
  let c832_174 : Index := 832#32
  ![v424.toNat, 832]
def k1_off15 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v455 : Index := Scalar.indexCast v4
  let c896_187 : Index := 896#32
  ![v455.toNat, 896]
def k1_off16 (i : grid1.Coords) : Fin 2 → Nat :=
  let c3328_i32 : BitVec 32 := 3328#32
  let c0_i32 : BitVec 32 := 0#32
  let arg0 : BitVec 32 := BitVec.ofNat 32 (i 0).val
  let c256_i32 : BitVec 32 := 256#32
  let v0 : BitVec 32 := Scalar.muli arg0 c256_i32
  let c256_i32_0 : BitVec 32 := 256#32
  let v1 : BitVec 32 := Scalar.subi v0 c256_i32_0
  let v2 : BitVec 32 := Scalar.maxsi c0_i32 v1
  let v3 : BitVec 32 := Scalar.minsi c3328_i32 v2
  let v4 : BitVec 32 := v3
  let v486 : Index := Scalar.indexCast v4
  let c960_200 : Index := 960#32
  ![v486.toNat, 960]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "qk_scale" => some (((Real.log 2)⁻¹ * (Real.sqrt 64)⁻¹ : ℝ) : EReal)
  | _ => none
-- ==== ReferenceIdeal.lean ====
abbrev S1x4096x1024 : Shape := ⟨3, ![1, 4096, 1024]⟩
abbrev S1x16 : Shape := ⟨2, ![1, 16]⟩
abbrev S1024x1024 : Shape := ⟨2, ![1024, 1024]⟩
abbrev S1x4096x16x64 : Shape := ⟨4, ![1, 4096, 16, 64]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x16x4096x4096 : Shape := ⟨4, ![1, 16, 4096, 4096]⟩
abbrev S1x4096x16x4096 : Shape := ⟨4, ![1, 4096, 16, 4096]⟩
abbrev S1x4096x1x4096 : Shape := ⟨4, ![1, 4096, 1, 4096]⟩
abbrev S1 : Shape := ⟨1, ![1]⟩
abbrev S1x1 : Shape := ⟨2, ![1, 1]⟩
abbrev S1x16x1 : Shape := ⟨3, ![1, 16, 1]⟩
abbrev S1x16x2 : Shape := ⟨3, ![1, 16, 2]⟩
abbrev S1x16x16x64 : Shape := ⟨4, ![1, 16, 16, 64]⟩
abbrev S1x16x16x4096 : Shape := ⟨4, ![1, 16, 16, 4096]⟩
abbrev S1x4096x16x16 : Shape := ⟨4, ![1, 4096, 16, 16]⟩
abbrev S1x4096x16x4112 : Shape := ⟨4, ![1, 4096, 16, 4112]⟩
abbrev S1x4096x16 : Shape := ⟨3, ![1, 4096, 16]⟩
abbrev S1x4096x16x1 : Shape := ⟨4, ![1, 4096, 16, 1]⟩
abbrev S1x16x64x4096 : Shape := ⟨4, ![1, 16, 64, 4096]⟩

abbrev nBuf : Space → Nat
  | .hbm => 102
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x16, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x4096x1024, .f32⟩
  | .hbm, ⟨7, _⟩ => ⟨S1x4096x16x64, .f32⟩
  | .hbm, ⟨8, _⟩ => ⟨S_, .f32⟩
  | .hbm, ⟨9, _⟩ => ⟨S1x4096x16x64, .f32⟩
  | .hbm, ⟨10, _⟩ => ⟨S1x4096x16x64, .f32⟩
  | .hbm, ⟨11, _⟩ => ⟨S1x4096x1024, .f32⟩
  | .hbm, ⟨12, _⟩ => ⟨S1x4096x16x64, .f32⟩
  | .hbm, ⟨13, _⟩ => ⟨S1x4096x1024, .f32⟩
  | .hbm, ⟨14, _⟩ => ⟨S1x4096x16x64, .f32⟩
  | .hbm, ⟨15, _⟩ => ⟨S4096, .i32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i32⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S_, .i32⟩
  | .hbm, ⟨25, _⟩ => ⟨S4096x4096, .i32⟩
  | .hbm, ⟨26, _⟩ => ⟨S4096x4096, .i1⟩
  | .hbm, ⟨27, _⟩ => ⟨S4096x4096, .i1⟩
  | .hbm, ⟨28, _⟩ => ⟨S1x16x4096x4096, .f32⟩
  | .hbm, ⟨29, _⟩ => ⟨S1x4096x16x4096, .f32⟩
  | .hbm, ⟨30, _⟩ => ⟨S1x4096x1x4096, .i1⟩
  | .hbm, ⟨31, _⟩ => ⟨S_, .f32⟩
  | .hbm, ⟨32, _⟩ => ⟨S_, .f32⟩
  | .hbm, ⟨33, _⟩ => ⟨S1x4096x16x4096, .i1⟩
  | .hbm, ⟨34, _⟩ => ⟨S1x4096x16x4096, .f32⟩
  | .hbm, ⟨35, _⟩ => ⟨S1x4096x16x4096, .f32⟩
  | .hbm, ⟨36, _⟩ => ⟨S1, .i32⟩
  | .hbm, ⟨37, _⟩ => ⟨S1x1, .i32⟩
  | .hbm, ⟨38, _⟩ => ⟨S_, .i32⟩
  | .hbm, ⟨39, _⟩ => ⟨S1x1, .i32⟩
  | .hbm, ⟨40, _⟩ => ⟨S1x1, .i1⟩
  | .hbm, ⟨41, _⟩ => ⟨S_, .i32⟩
  | .hbm, ⟨42, _⟩ => ⟨S1x1, .i32⟩
  | .hbm, ⟨43, _⟩ => ⟨S1x1, .i32⟩
  | .hbm, ⟨44, _⟩ => ⟨S1x1, .i32⟩
  | .hbm, ⟨45, _⟩ => ⟨S_, .i32⟩
  | .hbm, ⟨46, _⟩ => ⟨S1x16, .i32⟩
  | .hbm, ⟨47, _⟩ => ⟨S1x16, .i1⟩
  | .hbm, ⟨48, _⟩ => ⟨S_, .i32⟩
  | .hbm, ⟨49, _⟩ => ⟨S1x16, .i32⟩
  | .hbm, ⟨50, _⟩ => ⟨S1x16, .i32⟩
  | .hbm, ⟨51, _⟩ => ⟨S1x16, .i32⟩
  | .hbm, ⟨52, _⟩ => ⟨S1x16, .i32⟩
  | .hbm, ⟨53, _⟩ => ⟨S1x16x1, .i32⟩
  | .hbm, ⟨54, _⟩ => ⟨S1x16x1, .i32⟩
  | .hbm, ⟨55, _⟩ => ⟨S1x16x2, .i32⟩
  | .hbm, ⟨56, _⟩ => ⟨S1x16x16x64, .f32⟩
  | .hbm, ⟨57, _⟩ => ⟨S1x16x16x4096, .f32⟩
  | .hbm, ⟨58, _⟩ => ⟨S1x4096x16x16, .f32⟩
  | .hbm, ⟨59, _⟩ => ⟨S1x4096x16x4112, .f32⟩
  | .hbm, ⟨60, _⟩ => ⟨S_, .f32⟩
  | .hbm, ⟨61, _⟩ => ⟨S1x4096x16, .f32⟩
  | .hbm, ⟨62, _⟩ => ⟨S_, .f32⟩
  | .hbm, ⟨63, _⟩ => ⟨S1x4096x16, .f32⟩
  | .hbm, ⟨64, _⟩ => ⟨S1x4096x16, .f32⟩
  | .hbm, ⟨65, _⟩ => ⟨S1x4096x16x1, .f32⟩
  | .hbm, ⟨66, _⟩ => ⟨S1x4096x16x4112, .f32⟩
  | .hbm, ⟨67, _⟩ => ⟨S1x4096x16x4112, .f32⟩
  | .hbm, ⟨68, _⟩ => ⟨S1x4096x16x4112, .f32⟩
  | .hbm, ⟨69, _⟩ => ⟨S_, .f32⟩
  | .hbm, ⟨70, _⟩ => ⟨S1x4096x16, .f32⟩
  | .hbm, ⟨71, _⟩ => ⟨S1x4096x16x1, .f32⟩
  | .hbm, ⟨72, _⟩ => ⟨S1x4096x16x4112, .f32⟩
  | .hbm, ⟨73, _⟩ => ⟨S1x4096x16x4112, .f32⟩
  | .hbm, ⟨74, _⟩ => ⟨S1x4096x16x16, .f32⟩
  | .hbm, ⟨75, _⟩ => ⟨S1x4096x16x4096, .f32⟩
  | .hbm, ⟨76, _⟩ => ⟨S_, .i32⟩
  | .hbm, ⟨77, _⟩ => ⟨S1x1, .i32⟩
  | .hbm, ⟨78, _⟩ => ⟨S1x1, .i1⟩
  | .hbm, ⟨79, _⟩ => ⟨S_, .i32⟩
  | .hbm, ⟨80, _⟩ => ⟨S1x1, .i32⟩
  | .hbm, ⟨81, _⟩ => ⟨S1x1, .i32⟩
  | .hbm, ⟨82, _⟩ => ⟨S1x1, .i32⟩
  | .hbm, ⟨83, _⟩ => ⟨S_, .i32⟩
  | .hbm, ⟨84, _⟩ => ⟨S1x16, .i32⟩
  | .hbm, ⟨85, _⟩ => ⟨S1x16, .i1⟩
  | .hbm, ⟨86, _⟩ => ⟨S_, .i32⟩
  | .hbm, ⟨87, _⟩ => ⟨S1x16, .i32⟩
  | .hbm, ⟨88, _⟩ => ⟨S1x16, .i32⟩
  | .hbm, ⟨89, _⟩ => ⟨S1x16, .i32⟩
  | .hbm, ⟨90, _⟩ => ⟨S1x16, .i32⟩
  | .hbm, ⟨91, _⟩ => ⟨S1x16x1, .i32⟩
  | .hbm, ⟨92, _⟩ => ⟨S1x16x1, .i32⟩
  | .hbm, ⟨93, _⟩ => ⟨S1x16x2, .i32⟩
  | .hbm, ⟨94, _⟩ => ⟨S1x16x16x64, .f32⟩
  | .hbm, ⟨95, _⟩ => ⟨S1x16x64x4096, .f32⟩
  | .hbm, ⟨96, _⟩ => ⟨S1x4096x16x64, .f32⟩
  | .hbm, ⟨97, _⟩ => ⟨S1x16x64x4096, .f32⟩
  | .hbm, ⟨98, _⟩ => ⟨S1x4096x16x64, .f32⟩
  | .hbm, ⟨99, _⟩ => ⟨S1x4096x16x64, .f32⟩
  | .hbm, ⟨100, _⟩ => ⟨S1x4096x1024, .f32⟩
  | .hbm, ⟨101, _⟩ => ⟨S1x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_c_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Proof.Inputs.lean ====
module

public import proofs.«01_k».proof.Proof.Gen.Pre_inputs_ok
public import proofs.«01_k».proof.Proof.Gen.Pre_inputs_finite
public import Idealize.ShloMosaic.Lib.ReduceAll
public import Idealize.ShloMosaic.Lib.Affine
public import Idealize.ShloMosaic.PureOps.Ideal.Laws

@[expose] public section

set_option maxRecDepth 16384

noncomputable section

namespace Cert.Inputs

open Idealize.ShloMosaic
open Cert.Pre_inputs_finite (S_ S1x16 S1x4096x1024 S1024x1024)

/-! # What the two preconditions say of the argument arrays -/

/-- A word that reads as nonnegative and below 512 in signed order is below 512 as a natural number. -/
theorem word_lt {w : BitVec 32}
    (h : IntOp.andi (IntOp.cmpi .sge w 0#32) (IntOp.cmpi .slt w 512#32) = 1#1) : w.toNat < 512 := by
  have h2 : ∀ a b : BitVec 1, IntOp.andi a b = 1#1 → a = 1#1 ∧ b = 1#1 := by decide
  obtain ⟨h0, h1⟩ := h2 _ _ h
  rw [IntOp.cmpi_sge] at h0
  rw [IntOp.cmpi_slt] at h1
  simp only [BitVec.toInt, BitVec.toNat_ofNat] at h0 h1
  omega

/-- The first precondition: every global index is below 512. -/
theorem ok_words {F : FTy → Type} [FloatOps F] (x0 : FVec F S1x4096x1024 .f32) (x1 : IVec S1x16 32)
    (x2 x3 x4 x5 : FVec F S1024x1024 .f32) (h : Cert.Pre_inputs_ok.fn x0 x1 x2 x3 x4 x5 = fun _ => 1#1)
    (y : S1x16.Idx) : (x1 y).toNat < 512 :=
  word_lt (congrFun h y)

/-- An extended real is a real. -/
def IsReal (v : EReal) : Prop := ∃ r : ℝ, v = (r : EReal)

/-- An extended real whose absolute value is below infinity is a real. -/
theorem real_of_abs_lt {v : EReal} (h : max v (-v) < ⊤) : IsReal v := by
  induction v with
  | bot => simp at h
  | top => simp at h
  | coe r => exact ⟨r, rfl⟩

/-- The comparison of an absolute value with the infinite word says that the value is a real. -/
theorem real_of_cmp {v : Ideal .f32}
    (h : FloatOps.cmpf (F := Ideal) .olt (FloatOps.hostAbsf v) (FloatOps.ofBits .f32 0x7F800000#32) = 1#1) :
    IsReal v := by
  have e : (FloatOps.ofBits .f32 0x7F800000#32 : Ideal .f32) = (⊤ : EReal) := by
    simp [FloatOps.ofBits, Ideal.ofBits, Ideal.ieee]
  rw [Ideal.cmpf_def, e, Ideal.hostAbsf_def, Ideal.absf_def] at h
  refine real_of_abs_lt ?_
  by_contra hc
  simp [Ideal.cmp, hc] at h

/-- A conjunction of two one-entry vectors of truth values is true when both are. -/
theorem andi_both {s : Shape} (a b : IVec s 1) (i : s.Idx) (h : andi a b i = 1#1) : a i = 1#1 ∧ b i = 1#1 :=
  (by decide : ∀ a b : BitVec 1, IntOp.andi a b = 1#1 → a = 1#1 ∧ b = 1#1) _ _ h

/-- The second precondition: every global index is below 512, and the hidden states and the two score
projections hold reals only. -/
theorem finite_inputs (x0 : FVec Ideal S1x4096x1024 .f32) (x1 : IVec S1x16 32)
    (x2 x3 x4 x5 : FVec Ideal S1024x1024 .f32) (h : Cert.Pre_inputs_finite.fn x0 x1 x2 x3 x4 x5 = fun _ => 1#1) :
    (∀ y : S1x16.Idx, (x1 y).toNat < 512) ∧ (∀ y, IsReal (x0 y))
      ∧ (∀ y, IsReal (x2 y))
      ∧ (∀ y, IsReal (x3 y)) := by
  have e := congrFun h (fun i => i.elim0)
  dsimp only [Cert.Pre_inputs_finite.fn, Cert.Pre_inputs_finite.fn_part1] at e
  obtain ⟨e1, e'⟩ := andi_both _ _ _ e
  obtain ⟨e'', e4⟩ := andi_both _ _ _ e'
  obtain ⟨e2, e3⟩ := andi_both _ _ _ e''
  haveI : Subsingleton S_.Idx := ⟨fun a b => funext fun i => i.elim0⟩
  refine ⟨fun y => ?_, fun y => real_of_cmp ?_, fun y => real_of_cmp ?_, fun y => real_of_cmp ?_⟩
  · have k := Host.reduce_andi_all _ _ _ _ _ e1 y
    exact word_lt k
  · exact Host.reduce_andi_all _ _ _ _ _ e2 y
  · exact Host.reduce_andi_all _ _ _ _ _ e3 y
  · exact Host.reduce_andi_all _ _ _ _ _ e4 y

end Cert.Inputs
-- ==== Proof.KernelIdealRun.AttnPieces.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # One query block of the attention pipeline

The body of the second pallas_call on one block of 256 queries: for each of the 16 heads it reads the
head's 64 columns of the queries, of the 768 keys and values around the block and of the 16 selected rows,
computes the head's 64 output columns, and multiplies the sixteen heads side by side by the output weights. -/

/-- One head's output columns from the mask and the head's slices of the five operands. -/
def headOf (b : FVec F S256x768 .f32) (q : Vec F S256x64 .bf16) (k v : Vec F S768x64 .bf16) (sk sv : Vec F S16x64 .bf16) :
    FVec F S256x64 .bf16 := k1_pay14 b q k v sk sv

/-- One head's output columns before the last rounding (the last head is rounded where the heads are joined). -/
def headPre (b : FVec F S256x768 .f32) (q : Vec F S256x64 .bf16) (k v : Vec F S768x64 .bf16) (sk sv : Vec F S16x64 .bf16) :
    FVec F S256x64 .f32 :=
  k1_pay4 (k1_pay1 b (k1_pay54 q k)) (k1_pay2 (k1_pay52 q) sk) (k1_pay3 (k1_pay53 v) (k1_pay1 b (k1_pay54 q k)) (k1_pay2 (k1_pay52 q) sk) sv)

/-- The sixteen heads' outputs side by side, from the whole operand blocks. -/
def ctxOf (i : grid1.Coords) (x0 : Vec F S256x1024 .bf16) (x1 x2 : Vec F S4096x1024 .bf16) (x3 x4 : Vec F S16x1024 .bf16) :
    FVec F S256x1024 .bf16 :=
  k1_pay5
    (headOf (k1_pay7 i) (VecWindow.window x0 ![0, 0] S256x64.size inb_S256x1024_S256x64_0_0) (VecWindow.window x1 (k1_off1 i) S768x64.size (k1_off1_inb i)) (VecWindow.window x2 (k1_off1 i) S768x64.size (k1_off1_inb i)) (VecWindow.window x3 ![0, 0] S16x64.size inb_S16x1024_S16x64_0_0) (VecWindow.window x4 ![0, 0] S16x64.size inb_S16x1024_S16x64_0_0))
    (headOf (k1_pay7 i) (VecWindow.window x0 ![0, 64] S256x64.size inb_S256x1024_S256x64_0_64) (VecWindow.window x1 (k1_off2 i) S768x64.size (k1_off2_inb i)) (VecWindow.window x2 (k1_off2 i) S768x64.size (k1_off2_inb i)) (VecWindow.window x3 ![0, 64] S16x64.size inb_S16x1024_S16x64_0_64) (VecWindow.window x4 ![0, 64] S16x64.size inb_S16x1024_S16x64_0_64))
    (headOf (k1_pay7 i) (VecWindow.window x0 ![0, 128] S256x64.size inb_S256x1024_S256x64_0_128) (VecWindow.window x1 (k1_off3 i) S768x64.size (k1_off3_inb i)) (VecWindow.window x2 (k1_off3 i) S768x64.size (k1_off3_inb i)) (VecWindow.window x3 ![0, 128] S16x64.size inb_S16x1024_S16x64_0_128) (VecWindow.window x4 ![0, 128] S16x64.size inb_S16x1024_S16x64_0_128))
    (headOf (k1_pay7 i) (VecWindow.window x0 ![0, 192] S256x64.size inb_S256x1024_S256x64_0_192) (VecWindow.window x1 (k1_off4 i) S768x64.size (k1_off4_inb i)) (VecWindow.window x2 (k1_off4 i) S768x64.size (k1_off4_inb i)) (VecWindow.window x3 ![0, 192] S16x64.size inb_S16x1024_S16x64_0_192) (VecWindow.window x4 ![0, 192] S16x64.size inb_S16x1024_S16x64_0_192))
    (headOf (k1_pay7 i) (VecWindow.window x0 ![0, 256] S256x64.size inb_S256x1024_S256x64_0_256) (VecWindow.window x1 (k1_off5 i) S768x64.size (k1_off5_inb i)) (VecWindow.window x2 (k1_off5 i) S768x64.size (k1_off5_inb i)) (VecWindow.window x3 ![0, 256] S16x64.size inb_S16x1024_S16x64_0_256) (VecWindow.window x4 ![0, 256] S16x64.size inb_S16x1024_S16x64_0_256))
    (headOf (k1_pay7 i) (VecWindow.window x0 ![0, 320] S256x64.size inb_S256x1024_S256x64_0_320) (VecWindow.window x1 (k1_off6 i) S768x64.size (k1_off6_inb i)) (VecWindow.window x2 (k1_off6 i) S768x64.size (k1_off6_inb i)) (VecWindow.window x3 ![0, 320] S16x64.size inb_S16x1024_S16x64_0_320) (VecWindow.window x4 ![0, 320] S16x64.size inb_S16x1024_S16x64_0_320))
    (headOf (k1_pay7 i) (VecWindow.window x0 ![0, 384] S256x64.size inb_S256x1024_S256x64_0_384) (VecWindow.window x1 (k1_off7 i) S768x64.size (k1_off7_inb i)) (VecWindow.window x2 (k1_off7 i) S768x64.size (k1_off7_inb i)) (VecWindow.window x3 ![0, 384] S16x64.size inb_S16x1024_S16x64_0_384) (VecWindow.window x4 ![0, 384] S16x64.size inb_S16x1024_S16x64_0_384))
    (headOf (k1_pay7 i) (VecWindow.window x0 ![0, 448] S256x64.size inb_S256x1024_S256x64_0_448) (VecWindow.window x1 (k1_off8 i) S768x64.size (k1_off8_inb i)) (VecWindow.window x2 (k1_off8 i) S768x64.size (k1_off8_inb i)) (VecWindow.window x3 ![0, 448] S16x64.size inb_S16x1024_S16x64_0_448) (VecWindow.window x4 ![0, 448] S16x64.size inb_S16x1024_S16x64_0_448))
    (headOf (k1_pay7 i) (VecWindow.window x0 ![0, 512] S256x64.size inb_S256x1024_S256x64_0_512) (VecWindow.window x1 (k1_off9 i) S768x64.size (k1_off9_inb i)) (VecWindow.window x2 (k1_off9 i) S768x64.size (k1_off9_inb i)) (VecWindow.window x3 ![0, 512] S16x64.size inb_S16x1024_S16x64_0_512) (VecWindow.window x4 ![0, 512] S16x64.size inb_S16x1024_S16x64_0_512))
    (headOf (k1_pay7 i) (VecWindow.window x0 ![0, 576] S256x64.size inb_S256x1024_S256x64_0_576) (VecWindow.window x1 (k1_off10 i) S768x64.size (k1_off10_inb i)) (VecWindow.window x2 (k1_off10 i) S768x64.size (k1_off10_inb i)) (VecWindow.window x3 ![0, 576] S16x64.size inb_S16x1024_S16x64_0_576) (VecWindow.window x4 ![0, 576] S16x64.size inb_S16x1024_S16x64_0_576))
    (headOf (k1_pay7 i) (VecWindow.window x0 ![0, 640] S256x64.size inb_S256x1024_S256x64_0_640) (VecWindow.window x1 (k1_off11 i) S768x64.size (k1_off11_inb i)) (VecWindow.window x2 (k1_off11 i) S768x64.size (k1_off11_inb i)) (VecWindow.window x3 ![0, 640] S16x64.size inb_S16x1024_S16x64_0_640) (VecWindow.window x4 ![0, 640] S16x64.size inb_S16x1024_S16x64_0_640))
    (headOf (k1_pay7 i) (VecWindow.window x0 ![0, 704] S256x64.size inb_S256x1024_S256x64_0_704) (VecWindow.window x1 (k1_off12 i) S768x64.size (k1_off12_inb i)) (VecWindow.window x2 (k1_off12 i) S768x64.size (k1_off12_inb i)) (VecWindow.window x3 ![0, 704] S16x64.size inb_S16x1024_S16x64_0_704) (VecWindow.window x4 ![0, 704] S16x64.size inb_S16x1024_S16x64_0_704))
    (headOf (k1_pay7 i) (VecWindow.window x0 ![0, 768] S256x64.size inb_S256x1024_S256x64_0_768) (VecWindow.window x1 (k1_off13 i) S768x64.size (k1_off13_inb i)) (VecWindow.window x2 (k1_off13 i) S768x64.size (k1_off13_inb i)) (VecWindow.window x3 ![0, 768] S16x64.size inb_S16x1024_S16x64_0_768) (VecWindow.window x4 ![0, 768] S16x64.size inb_S16x1024_S16x64_0_768))
    (headOf (k1_pay7 i) (VecWindow.window x0 ![0, 832] S256x64.size inb_S256x1024_S256x64_0_832) (VecWindow.window x1 (k1_off14 i) S768x64.size (k1_off14_inb i)) (VecWindow.window x2 (k1_off14 i) S768x64.size (k1_off14_inb i)) (VecWindow.window x3 ![0, 832] S16x64.size inb_S16x1024_S16x64_0_832) (VecWindow.window x4 ![0, 832] S16x64.size inb_S16x1024_S16x64_0_832))
    (headOf (k1_pay7 i) (VecWindow.window x0 ![0, 896] S256x64.size inb_S256x1024_S256x64_0_896) (VecWindow.window x1 (k1_off15 i) S768x64.size (k1_off15_inb i)) (VecWindow.window x2 (k1_off15 i) S768x64.size (k1_off15_inb i)) (VecWindow.window x3 ![0, 896] S16x64.size inb_S16x1024_S16x64_0_896) (VecWindow.window x4 ![0, 896] S16x64.size inb_S16x1024_S16x64_0_896))
    (headPre (k1_pay7 i) (VecWindow.window x0 ![0, 960] S256x64.size inb_S256x1024_S256x64_0_960) (VecWindow.window x1 (k1_off16 i) S768x64.size (k1_off16_inb i)) (VecWindow.window x2 (k1_off16 i) S768x64.size (k1_off16_inb i)) (VecWindow.window x3 ![0, 960] S16x64.size inb_S16x1024_S16x64_0_960) (VecWindow.window x4 ![0, 960] S16x64.size inb_S16x1024_S16x64_0_960))

/-- What the body stores in its output block. -/
def attnOut (i : grid1.Coords) (x0 : Vec F S256x1024 .bf16) (x1 : Vec F S4096x1024 .bf16) (x2 : Vec F S4096x1024 .bf16) (x3 : Vec F S16x1024 .bf16) (x4 : Vec F S16x1024 .bf16) (x5 : Vec F S1024x1024 .f32) : Vec F S256x1024 .f32 :=
  k1_pay6 (ctxOf i x0 x1 x2 x3 x4) x5

/-- A rectangle of a whole buffer holding `x` reads the window of `x`. -/
theorem rd {sp : Space} {s : Shape} {e : EltTy} (a : Memref sig .tc sp s e) (ha : a.IsWhole) (x : Vec F s e)
    {off size : Fin s.rank → ℕ} (inb : ∀ k, off k + size k ≤ s.size k) :
    a.view.readAt (Elt F) (Rect.unit off size inb).toLoadRect (ha.unread x) = VecWindow.window x off size inb := by
  rw [View.readAt_unit _ _ inb rfl inb, ha.read_unread]

/-- The window of the whole block is the block. -/
theorem whole_window {s : Shape} {e : EltTy} (x : Vec F s e) {off : Fin s.rank → ℕ} (inb : ∀ k, off k + s.size k ≤ s.size k) :
    VecWindow.window x off s.size inb = x := by
  funext y
  exact congrArg x (funext fun a => Fin.ext (by show off a + 1 * (y a).val = (y a).val; have := inb a; omega))

/-- The whole rectangle of a whole buffer holding `x` reads `x`. -/
theorem rdFull {sp : Space} {s : Shape} {e : EltTy} (a : Memref sig .tc sp s e) (ha : a.IsWhole) (x : Vec F s e)
    {off : Fin s.rank → ℕ} (inb : ∀ k, off k + s.size k ≤ s.size k) :
    a.view.readAt (Elt F) (Rect.unit off s.size inb).toLoadRect (ha.unread x) = x := by
  rw [View.readAt_full, ha.read_unread]

set_option maxHeartbeats 20000000 in
/-- The pieces the body's one store leaves in the output block, with the run that leaves them. -/
def attnPieces (c : Dev nD) (i : grid1.Coords) (arg1 : Memref sig .tc .vmem S256x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S1024x1024 .f32) (harg6 : arg6.IsWhole) (arg7 : Memref sig .tc .vmem S256x1024 .f32) (harg7 : arg7.IsWhole)
    (x0 : Vec F S256x1024 .bf16) (x1 : Vec F S4096x1024 .bf16) (x2 : Vec F S4096x1024 .bf16) (x3 : Vec F S16x1024 .bf16) (x4 : Vec F S16x1024 .bf16) (x5 : Vec F S1024x1024 .f32) :
    { L6 : List (View.Piece (Elt F) S256x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6)) -∗ K ⟨⟩))
          ⊢ wp frame (wpE (defs₀ (F := F)) Variants.none c none) E (cc1__attn_body i arg1 harg1 arg2 harg2 arg3 harg3 arg4 harg4 arg5 harg5 arg6 harg6 arg7 harg7) K } := by
  refine ⟨?_, fun E K => ?run⟩
  case run =>
    simp only [cc1__attn_body_eq_skeleton]; unfold cc1__attn_body_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    iexists _; iexact H6

end Cert.KernelIdeal.Run

end
-- ==== Proof.KernelIdealRun.AttnBody.lean ====
module

public import proofs.«01_k».proof.Proof.KernelIdealRun.AttnPieces

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-- Head 0 as printed is `headOf`. -/
theorem head0_eq {i : grid1.Coords} {q : Vec F S256x64 .bf16} {k v : Vec F S768x64 .bf16} {sk sv : Vec F S16x64 .bf16} :
    k1_pay13 (k1_pay9 v) (k1_pay10 i q k) (k1_pay11 q sk) (k1_pay12 i q k sk) sv = headOf (k1_pay7 i) q k v sk sv := rfl

/-- Head 1 as printed is `headOf`. -/
theorem head1_eq {b : FVec F S256x768 .f32} {q : Vec F S256x64 .bf16} {k v : Vec F S768x64 .bf16} {sk sv : Vec F S16x64 .bf16} :
    k1_pay14 b q k v sk sv = headOf b q k v sk sv := rfl

/-- Head 2 as printed is `headOf`. -/
theorem head2_eq {b : FVec F S256x768 .f32} {q : Vec F S256x64 .bf16} {k v : Vec F S768x64 .bf16} {sk sv : Vec F S16x64 .bf16} :
    k1_pay15 b q k v sk sv = headOf b q k v sk sv := rfl

/-- Head 3 as printed is `headOf`. -/
theorem head3_eq {b : FVec F S256x768 .f32} {q : Vec F S256x64 .bf16} {k v : Vec F S768x64 .bf16} {sk sv : Vec F S16x64 .bf16} :
    k1_pay19 b (k1_pay16 q) (k1_pay17 v) (k1_pay18 q k) sk sv = headOf b q k v sk sv := rfl

/-- Head 4 as printed is `headOf`. -/
theorem head4_eq {b : FVec F S256x768 .f32} {q : Vec F S256x64 .bf16} {k v : Vec F S768x64 .bf16} {sk sv : Vec F S16x64 .bf16} :
    k1_pay25 (k1_pay21 v) (k1_pay22 b q k) (k1_pay23 q sk) (k1_pay24 b q k sk) sv = headOf b q k v sk sv := rfl

/-- Head 5 as printed is `headOf`. -/
theorem head5_eq {b : FVec F S256x768 .f32} {q : Vec F S256x64 .bf16} {k v : Vec F S768x64 .bf16} {sk sv : Vec F S16x64 .bf16} :
    k1_pay26 b q k v sk sv = headOf b q k v sk sv := rfl

/-- Head 6 as printed is `headOf`. -/
theorem head6_eq {b : FVec F S256x768 .f32} {q : Vec F S256x64 .bf16} {k v : Vec F S768x64 .bf16} {sk sv : Vec F S16x64 .bf16} :
    k1_pay27 b q k v sk sv = headOf b q k v sk sv := rfl

/-- Head 7 as printed is `headOf`. -/
theorem head7_eq {b : FVec F S256x768 .f32} {q : Vec F S256x64 .bf16} {k v : Vec F S768x64 .bf16} {sk sv : Vec F S16x64 .bf16} :
    k1_pay31 b (k1_pay28 q) (k1_pay29 v) (k1_pay30 q k) sk sv = headOf b q k v sk sv := rfl

/-- Head 8 as printed is `headOf`. -/
theorem head8_eq {b : FVec F S256x768 .f32} {q : Vec F S256x64 .bf16} {k v : Vec F S768x64 .bf16} {sk sv : Vec F S16x64 .bf16} :
    k1_pay37 (k1_pay33 v) (k1_pay34 b q k) (k1_pay35 q sk) (k1_pay36 b q k sk) sv = headOf b q k v sk sv := rfl

/-- Head 9 as printed is `headOf`. -/
theorem head9_eq {b : FVec F S256x768 .f32} {q : Vec F S256x64 .bf16} {k v : Vec F S768x64 .bf16} {sk sv : Vec F S16x64 .bf16} :
    k1_pay38 b q k v sk sv = headOf b q k v sk sv := rfl

/-- Head 10 as printed is `headOf`. -/
theorem head10_eq {b : FVec F S256x768 .f32} {q : Vec F S256x64 .bf16} {k v : Vec F S768x64 .bf16} {sk sv : Vec F S16x64 .bf16} :
    k1_pay39 b q k v sk sv = headOf b q k v sk sv := rfl

/-- Head 11 as printed is `headOf`. -/
theorem head11_eq {b : FVec F S256x768 .f32} {q : Vec F S256x64 .bf16} {k v : Vec F S768x64 .bf16} {sk sv : Vec F S16x64 .bf16} :
    k1_pay43 b (k1_pay40 q) (k1_pay41 v) (k1_pay42 q k) sk sv = headOf b q k v sk sv := rfl

/-- Head 12 as printed is `headOf`. -/
theorem head12_eq {b : FVec F S256x768 .f32} {q : Vec F S256x64 .bf16} {k v : Vec F S768x64 .bf16} {sk sv : Vec F S16x64 .bf16} :
    k1_pay49 (k1_pay45 v) (k1_pay46 b q k) (k1_pay47 q sk) (k1_pay48 b q k sk) sv = headOf b q k v sk sv := rfl

/-- Head 13 as printed is `headOf`. -/
theorem head13_eq {b : FVec F S256x768 .f32} {q : Vec F S256x64 .bf16} {k v : Vec F S768x64 .bf16} {sk sv : Vec F S16x64 .bf16} :
    k1_pay50 b q k v sk sv = headOf b q k v sk sv := rfl

/-- Head 14 as printed is `headOf`. -/
theorem head14_eq {b : FVec F S256x768 .f32} {q : Vec F S256x64 .bf16} {k v : Vec F S768x64 .bf16} {sk sv : Vec F S16x64 .bf16} :
    k1_pay51 b q k v sk sv = headOf b q k v sk sv := rfl

/-- The joined heads are equal when the heads are. -/
theorem joined_congr {a0 a1 a2 a3 a4 a5 a6 a7 a8 a9 a10 a11 a12 a13 a14 b0 b1 b2 b3 b4 b5 b6 b7 b8 b9 b10 b11 b12 b13 b14 : FVec F S256x64 .bf16} {a15 b15 : FVec F S256x64 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    k1_pay5 a0 a1 a2 a3 a4 a5 a6 a7 a8 a9 a10 a11 a12 a13 a14 a15 = k1_pay5 b0 b1 b2 b3 b4 b5 b6 b7 b8 b9 b10 b11 b12 b13 b14 b15 := by
  subst h0 h1 h2 h3 h4 h5 h6 h7 h8 h9 h10 h11 h12 h13 h14 h15; rfl

/-- What the body's store leaves in the output block reads as `attnOut` of the operand blocks. -/
theorem attn_read (c : Dev nD) (i : grid1.Coords) (arg1 : Memref sig .tc .vmem S256x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S1024x1024 .f32) (harg6 : arg6.IsWhole) (arg7 : Memref sig .tc .vmem S256x1024 .f32) (harg7 : arg7.IsWhole)
    (x0 : Vec F S256x1024 .bf16) (x1 : Vec F S4096x1024 .bf16) (x2 : Vec F S4096x1024 .bf16) (x3 : Vec F S16x1024 .bf16) (x4 : Vec F S16x1024 .bf16) (x5 : Vec F S1024x1024 .f32) (f : arg7.view.ty.Contents (Elt F)) :
    arg7.view.read (Elt F) (arg7.view.writes (Elt F) f (attnPieces c i arg1 harg1 arg2 harg2 arg3 harg3 arg4 harg4 arg5 harg5 arg6 harg6 arg7 harg7 x0 x1 x2 x3 x4 x5).1) = attnOut i x0 x1 x2 x3 x4 x5 := by
  refine (View.read_writes_full _ _ inb_S256x1024_S256x1024_0_0 _ _).trans ?_
  dsimp only [attnPieces]
  simp only [attnPieces.sl.r, attnPieces.sl.r_1, attnPieces.sl.r_2, attnPieces.sl.r_3, attnPieces.sl.r_4, attnPieces.sl.r_5, attnPieces.sl.r_6, attnPieces.sl.r_7, attnPieces.sl.r_8, attnPieces.sl.r_9, attnPieces.sl.r_10, attnPieces.sl.r_11, attnPieces.sl.r_12, attnPieces.sl.r_13, attnPieces.sl.r_14, attnPieces.sl.r_15, attnPieces.sl.r_16, attnPieces.sl.r_17, attnPieces.sl.r_18, attnPieces.sl.r_19, attnPieces.sl.r_20, attnPieces.sl.r_21, attnPieces.sl.r_22, attnPieces.sl.r_23, attnPieces.sl.r_24, attnPieces.sl.r_25, attnPieces.sl.r_26, attnPieces.sl.r_27, attnPieces.sl.r_28, attnPieces.sl.r_29, attnPieces.sl.r_30, attnPieces.sl.r_31, attnPieces.sl.r_32, attnPieces.sl.r_33, attnPieces.sl.r_34, attnPieces.sl.r_35, attnPieces.sl.r_36, attnPieces.sl.r_37, attnPieces.sl.r_38, attnPieces.sl.r_39, attnPieces.sl.r_40, attnPieces.sl.r_41, attnPieces.sl.r_42, attnPieces.sl.r_43, attnPieces.sl.r_44, attnPieces.sl.r_45, attnPieces.sl.r_46]
  simp only [rd]
  unfold attnOut ctxOf
  refine congrArg₂ k1_pay6 (joined_congr ?_ ?_ ?_ ?_ ?_ ?_ ?_ ?_ ?_ ?_ ?_ ?_ ?_ ?_ ?_ ?_) ?_
  · exact head0_eq
  · exact head1_eq
  · exact head2_eq
  · exact head3_eq
  · exact head4_eq
  · exact head5_eq
  · exact head6_eq
  · exact head7_eq
  · exact head8_eq
  · exact head9_eq
  · exact head10_eq
  · exact head11_eq
  · exact head12_eq
  · exact head13_eq
  · exact head14_eq
  · rfl
  · exact whole_window x5 _

/-- The body of the second pallas_call at a grid point: from whole operand buffers at `x0` … `x5` it runs to its end
    with those as they were and the output buffer at `attnOut`. -/
theorem attn_run (c : Dev nD) (i : grid1.Coords) (arg1 : Memref sig .tc .vmem S256x1024 .bf16) (harg1 : arg1.IsWhole) (arg2 : Memref sig .tc .vmem S4096x1024 .bf16) (harg2 : arg2.IsWhole) (arg3 : Memref sig .tc .vmem S4096x1024 .bf16) (harg3 : arg3.IsWhole) (arg4 : Memref sig .tc .vmem S16x1024 .bf16) (harg4 : arg4.IsWhole) (arg5 : Memref sig .tc .vmem S16x1024 .bf16) (harg5 : arg5.IsWhole) (arg6 : Memref sig .tc .vmem S1024x1024 .f32) (harg6 : arg6.IsWhole) (arg7 : Memref sig .tc .vmem S256x1024 .f32) (harg7 : arg7.IsWhole)
    (x0 : Vec F S256x1024 .bf16) (x1 : Vec F S4096x1024 .bf16) (x2 : Vec F S4096x1024 .bf16) (x3 : Vec F S16x1024 .bf16) (x4 : Vec F S16x1024 .bf16) (x5 : Vec F S1024x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (attnOut i x0 x1 x2 x3 x4 x5)) -∗ K ⟨⟩))
      ⊢ wp frame (wpE (defs₀ (F := F)) Variants.none c none) E (cc1__attn_body i arg1 harg1 arg2 harg2 arg3 harg3 arg4 harg4 arg5 harg5 arg6 harg6 arg7 harg7) K := by
  iintro ⟨H0, H1, H2, H3, H4, H5, H6, Hk⟩
  iapply ((attnPieces c i arg1 harg1 arg2 harg2 arg3 harg3 arg4 harg4 arg5 harg5 arg6 harg6 arg7 harg7 x0 x1 x2 x3 x4 x5).2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%e6, H6⟩⟩
  iapply Hk
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact attn_read c i arg1 harg1 arg2 harg2 arg3 harg3 arg4 harg4 arg5 harg5 arg6 harg6 arg7 harg7 x0 x1 x2 x3 x4 x5 e6

end Cert.KernelIdeal.Run

end
-- ==== Proof.KernelIdealRun.AttnData.lean ====
module

public import proofs.«01_k».proof.Proof.KernelIdealRun.AttnBody

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # Region 1: what it reads, what it leaves, and its body's obligation -/

variable (V : Dev nD → Valuation τ sig (Elt F))

/-- The block of window `w`'s array that is moved at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's current staging buffer at point `t`. -/
abbrev ms1_0 (t : Fin cfg1.N) := win1_0.stage (cfg1.slots t 0)
/-- It is a whole buffer. -/
theorem hs1_0 (t : Fin cfg1.N) : (ms1_0 t).IsWhole := hstage1_0 ((cfg1.slots t 0).cast nbuf1_0)
/-- Window 1's current staging buffer at point `t`. -/
abbrev ms1_1 (t : Fin cfg1.N) := win1_1.stage (cfg1.slots t 1)
/-- It is a whole buffer. -/
theorem hs1_1 (t : Fin cfg1.N) : (ms1_1 t).IsWhole := hstage1_1 ((cfg1.slots t 1).cast nbuf1_1)
/-- Window 2's current staging buffer at point `t`. -/
abbrev ms1_2 (t : Fin cfg1.N) := win1_2.stage (cfg1.slots t 2)
/-- It is a whole buffer. -/
theorem hs1_2 (t : Fin cfg1.N) : (ms1_2 t).IsWhole := hstage1_2 ((cfg1.slots t 2).cast nbuf1_2)
/-- Window 3's current staging buffer at point `t`. -/
abbrev ms1_3 (t : Fin cfg1.N) := win1_3.stage (cfg1.slots t 3)
/-- It is a whole buffer. -/
theorem hs1_3 (t : Fin cfg1.N) : (ms1_3 t).IsWhole := hstage1_3 ((cfg1.slots t 3).cast nbuf1_3)
/-- Window 4's current staging buffer at point `t`. -/
abbrev ms1_4 (t : Fin cfg1.N) := win1_4.stage (cfg1.slots t 4)
/-- It is a whole buffer. -/
theorem hs1_4 (t : Fin cfg1.N) : (ms1_4 t).IsWhole := hstage1_4 ((cfg1.slots t 4).cast nbuf1_4)
/-- Window 5's current staging buffer at point `t`. -/
abbrev ms1_5 (t : Fin cfg1.N) := win1_5.stage (cfg1.slots t 5)
/-- It is a whole buffer. -/
theorem hs1_5 (t : Fin cfg1.N) : (ms1_5 t).IsWhole := hstage1_5 ((cfg1.slots t 5).cast nbuf1_5)
/-- Window 6's current staging buffer at point `t`. -/
abbrev ms1_6 (t : Fin cfg1.N) := win1_6.stage (cfg1.slots t 6)
/-- It is a whole buffer. -/
theorem hs1_6 (t : Fin cfg1.N) : (ms1_6 t).IsWhole := hstage1_6 ((cfg1.slots t 6).cast nbuf1_6)

/-- What window 6's buffer holds once the body has run at point `t`. -/
def left1_6 (c : Dev nD) (t : Fin cfg1.N) : Vec F S256x1024 .f32 := attnOut (grid1.coords t) (iblk1 V c 0 t) (iblk1 V c 1 t) (iblk1 V c 2 t) (iblk1 V c 3 t) (iblk1 V c 4 t) (iblk1 V c 5 t)

/-- The region's proof data: the arrays as it finds them, each staging buffer after each point, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => left1_6 V c t
  Φ _ := Pipeline.scopedRest spec1 c
  q _ := fullShare
  owed _ := 0

/-- The arrays are as the region finds them. -/
theorem dat1_A (c : Dev nD) (w : Fin cfg1.W) : (dat1 V c).A w = V c (Pipeline.arrRef spec1 w) := by dsimp only [dat1]

/-- The stated contents of window 0's buffer. -/
theorem dat1_after0 (c : Dev nD) (t : Fin cfg1.N) : (dat1 V c).after 0 t = iblk1 V c 0 t := by dsimp only [dat1]
/-- The stated contents of window 1's buffer. -/
theorem dat1_after1 (c : Dev nD) (t : Fin cfg1.N) : (dat1 V c).after 1 t = iblk1 V c 1 t := by dsimp only [dat1]
/-- The stated contents of window 2's buffer. -/
theorem dat1_after2 (c : Dev nD) (t : Fin cfg1.N) : (dat1 V c).after 2 t = iblk1 V c 2 t := by dsimp only [dat1]
/-- The stated contents of window 3's buffer. -/
theorem dat1_after3 (c : Dev nD) (t : Fin cfg1.N) : (dat1 V c).after 3 t = iblk1 V c 3 t := by dsimp only [dat1]
/-- The stated contents of window 4's buffer. -/
theorem dat1_after4 (c : Dev nD) (t : Fin cfg1.N) : (dat1 V c).after 4 t = iblk1 V c 4 t := by dsimp only [dat1]
/-- The stated contents of window 5's buffer. -/
theorem dat1_after5 (c : Dev nD) (t : Fin cfg1.N) : (dat1 V c).after 5 t = iblk1 V c 5 t := by dsimp only [dat1]
/-- The stated contents of window 6's buffer. -/
theorem dat1_after6 (c : Dev nD) (t : Fin cfg1.N) : (dat1 V c).after 6 t = left1_6 V c t := by dsimp only [dat1]
/-- Window 0's buffer holds its block when the body starts. -/
theorem dat1_before0 (c : Dev nD) (t : Fin cfg1.N) (d) : (dat1 V c).before 0 t d = iblk1 V c 0 t :=
  ((dat1 V c).before_in_eq_fetched 0 rfl (fun _ => rfl) (fun _ _ _ => rfl)
    (fun t => by rw [dat1_after0]; unfold Dat.blockOf iblk1; rw [dat1_A]; try rfl) t d).trans
    (by unfold Dat.fetched Dat.blockOf iblk1; rw [dat1_A]; try rfl)
/-- Window 1's buffer holds its block when the body starts. -/
theorem dat1_before1 (c : Dev nD) (t : Fin cfg1.N) (d) : (dat1 V c).before 1 t d = iblk1 V c 1 t :=
  ((dat1 V c).before_in_eq_fetched 1 rfl (fun _ => rfl) (fun _ _ _ => rfl)
    (fun t => by rw [dat1_after1]; unfold Dat.blockOf iblk1; rw [dat1_A]; try rfl) t d).trans
    (by unfold Dat.fetched Dat.blockOf iblk1; rw [dat1_A]; try rfl)
/-- Window 2's buffer holds its block when the body starts. -/
theorem dat1_before2 (c : Dev nD) (t : Fin cfg1.N) (d) : (dat1 V c).before 2 t d = iblk1 V c 2 t :=
  ((dat1 V c).before_in_eq_fetched 2 rfl (fun _ => rfl) (fun _ _ _ => rfl)
    (fun t => by rw [dat1_after2]; unfold Dat.blockOf iblk1; rw [dat1_A]; try rfl) t d).trans
    (by unfold Dat.fetched Dat.blockOf iblk1; rw [dat1_A]; try rfl)
/-- Window 3's buffer holds its block when the body starts. -/
theorem dat1_before3 (c : Dev nD) (t : Fin cfg1.N) (d) : (dat1 V c).before 3 t d = iblk1 V c 3 t :=
  ((dat1 V c).before_in_eq_fetched 3 rfl (fun _ => rfl) (fun _ _ _ => rfl)
    (fun t => by rw [dat1_after3]; unfold Dat.blockOf iblk1; rw [dat1_A]; try rfl) t d).trans
    (by unfold Dat.fetched Dat.blockOf iblk1; rw [dat1_A]; try rfl)
/-- Window 4's buffer holds its block when the body starts. -/
theorem dat1_before4 (c : Dev nD) (t : Fin cfg1.N) (d) : (dat1 V c).before 4 t d = iblk1 V c 4 t :=
  ((dat1 V c).before_in_eq_fetched 4 rfl (fun _ => rfl) (fun _ _ _ => rfl)
    (fun t => by rw [dat1_after4]; unfold Dat.blockOf iblk1; rw [dat1_A]; try rfl) t d).trans
    (by unfold Dat.fetched Dat.blockOf iblk1; rw [dat1_A]; try rfl)
/-- Window 5's buffer holds its block when the body starts. -/
theorem dat1_before5 (c : Dev nD) (t : Fin cfg1.N) (d) : (dat1 V c).before 5 t d = iblk1 V c 5 t :=
  ((dat1 V c).before_in_eq_fetched 5 rfl (fun _ => rfl) (fun _ _ _ => rfl)
    (fun t => by rw [dat1_after5]; unfold Dat.blockOf iblk1; rw [dat1_A]; try rfl) t d).trans
    (by unfold Dat.fetched Dat.blockOf iblk1; rw [dat1_A]; try rfl)

/-- What the body starts from at point `t`. -/
def start1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What the body ends at. -/
def finish1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

/-- The body takes the one to the other, at any point. -/
theorem body1 (c : Dev nD) (t : Fin cfg1.N) :
    start1 V c t ⊢ wp frame (wpE (defs₀ (F := F)) Variants.none c none) Set.univ (bodyAt1 t) (fun _ => finish1 V c t) := by
  unfold start1 finish1 bodyAt1
  simp only [dat1_before0, dat1_before1, dat1_before2, dat1_before3, dat1_before4, dat1_before5]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4, dat1_after5, dat1_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (attn_run c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The row the body is called through. -/
theorem attn_row (t : Fin cfg1.N) : defs₀ (F := F) .tc cfg1.body (cfg1.bodyArgs t (cfg1.slots t)) = bodyAt1 t := by
  unfold defs₀; rw [Defs.onTc_tc]

/-- The body meets the region's obligation. -/
theorem obligation1 (c : Dev nD) : BodyObligation (dat1 V c) (defs₀ (F := F)) Variants.none () Set.univ := fun t => by
  rw [bigSep_W1, bigSep_W1, attn_row]
  exact triple_restated (body1 V c t) rfl .rfl fun _ => .rfl

end Cert.KernelIdeal.Run

end
-- ==== Proof.KernelIdealRun.ProjFirst.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # The first block of the projection pipeline

The body of the first pallas_call at the first grid point: besides the three projections of its block it
gathers the 16 selected rows and projects them. -/

set_option maxHeartbeats 20000000 in
/-- What the body leaves in its five outputs at the first point, with the run that leaves it. -/
def projFirst (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : k0_cond1 i = 1#1)
    (x0 : Vec F S1x16 .i32) (x1 : Vec F S512x1024 .f32) (x2 : Vec F S1024x1024 .f32) (x3 : Vec F S1024x1024 .f32) (x4 : Vec F S1024x1024 .f32) (k0_hw1 : k0_chk1 i (arg1.view.readAt (Elt F) (Rect.unit (s := S1x16) ![0, 0] S1x1.size inb_S1x16_S1x1_0_0).toLoadRect (harg1.unread x0) (Shape.Idx.first (numel1_S1x1.symm ▸ Nat.one_pos)))) (k0_hw2 : k0_chk2 i (arg1.view.readAt (Elt F) (Rect.unit (s := S1x16) ![0, 1] S1x1.size inb_S1x16_S1x1_0_1).toLoadRect (harg1.unread x0) (Shape.Idx.first (numel1_S1x1.symm ▸ Nat.one_pos)))) (k0_hw3 : k0_chk3 i (arg1.view.readAt (Elt F) (Rect.unit (s := S1x16) ![0, 2] S1x1.size inb_S1x16_S1x1_0_2).toLoadRect (harg1.unread x0) (Shape.Idx.first (numel1_S1x1.symm ▸ Nat.one_pos)))) (k0_hw4 : k0_chk4 i (arg1.view.readAt (Elt F) (Rect.unit (s := S1x16) ![0, 3] S1x1.size inb_S1x16_S1x1_0_3).toLoadRect (harg1.unread x0) (Shape.Idx.first (numel1_S1x1.symm ▸ Nat.one_pos)))) (k0_hw5 : k0_chk5 i (arg1.view.readAt (Elt F) (Rect.unit (s := S1x16) ![0, 4] S1x1.size inb_S1x16_S1x1_0_4).toLoadRect (harg1.unread x0) (Shape.Idx.first (numel1_S1x1.symm ▸ Nat.one_pos)))) (k0_hw6 : k0_chk6 i (arg1.view.readAt (Elt F) (Rect.unit (s := S1x16) ![0, 5] S1x1.size inb_S1x16_S1x1_0_5).toLoadRect (harg1.unread x0) (Shape.Idx.first (numel1_S1x1.symm ▸ Nat.one_pos)))) (k0_hw7 : k0_chk7 i (arg1.view.readAt (Elt F) (Rect.unit (s := S1x16) ![0, 6] S1x1.size inb_S1x16_S1x1_0_6).toLoadRect (harg1.unread x0) (Shape.Idx.first (numel1_S1x1.symm ▸ Nat.one_pos)))) (k0_hw8 : k0_chk8 i (arg1.view.readAt (Elt F) (Rect.unit (s := S1x16) ![0, 7] S1x1.size inb_S1x16_S1x1_0_7).toLoadRect (harg1.unread x0) (Shape.Idx.first (numel1_S1x1.symm ▸ Nat.one_pos)))) (k0_hw9 : k0_chk9 i (arg1.view.readAt (Elt F) (Rect.unit (s := S1x16) ![0, 8] S1x1.size inb_S1x16_S1x1_0_8).toLoadRect (harg1.unread x0) (Shape.Idx.first (numel1_S1x1.symm ▸ Nat.one_pos)))) (k0_hw10 : k0_chk10 i (arg1.view.readAt (Elt F) (Rect.unit (s := S1x16) ![0, 9] S1x1.size inb_S1x16_S1x1_0_9).toLoadRect (harg1.unread x0) (Shape.Idx.first (numel1_S1x1.symm ▸ Nat.one_pos)))) (k0_hw11 : k0_chk11 i (arg1.view.readAt (Elt F) (Rect.unit (s := S1x16) ![0, 10] S1x1.size inb_S1x16_S1x1_0_10).toLoadRect (harg1.unread x0) (Shape.Idx.first (numel1_S1x1.symm ▸ Nat.one_pos)))) (k0_hw12 : k0_chk12 i (arg1.view.readAt (Elt F) (Rect.unit (s := S1x16) ![0, 11] S1x1.size inb_S1x16_S1x1_0_11).toLoadRect (harg1.unread x0) (Shape.Idx.first (numel1_S1x1.symm ▸ Nat.one_pos)))) (k0_hw13 : k0_chk13 i (arg1.view.readAt (Elt F) (Rect.unit (s := S1x16) ![0, 12] S1x1.size inb_S1x16_S1x1_0_12).toLoadRect (harg1.unread x0) (Shape.Idx.first (numel1_S1x1.symm ▸ Nat.one_pos)))) (k0_hw14 : k0_chk14 i (arg1.view.readAt (Elt F) (Rect.unit (s := S1x16) ![0, 13] S1x1.size inb_S1x16_S1x1_0_13).toLoadRect (harg1.unread x0) (Shape.Idx.first (numel1_S1x1.symm ▸ Nat.one_pos)))) (k0_hw15 : k0_chk15 i (arg1.view.readAt (Elt F) (Rect.unit (s := S1x16) ![0, 14] S1x1.size inb_S1x16_S1x1_0_14).toLoadRect (harg1.unread x0) (Shape.Idx.first (numel1_S1x1.symm ▸ Nat.one_pos)))) (k0_hw16 : k0_chk16 i (arg1.view.readAt (Elt F) (Rect.unit (s := S1x16) ![0, 15] S1x1.size inb_S1x16_S1x1_0_15).toLoadRect (harg1.unread x0) (Shape.Idx.first (numel1_S1x1.symm ▸ Nat.one_pos)))) :
    Σ' (L5 : List (View.Piece (Elt F) S512x1024 .bf16)) (L6 : List (View.Piece (Elt F) S512x1024 .bf16)) (L7 : List (View.Piece (Elt F) S512x1024 .bf16)) (L8 : List (View.Piece (Elt F) S16x1024 .bf16)) (L9 : List (View.Piece (Elt F) S16x1024 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc0__qkv_body i arg1 harg1 arg2 harg2 arg3 harg3 arg4 harg4 arg5 harg5 arg6 harg6 arg7 harg7 arg8 harg8 arg9 harg9 arg10 harg10) K := by
  refine ⟨?_, ?_, ?_, ?_, ?_, fun E K => ?run⟩
  case run =>
    simp only [cc0__qkv_body_eq_skeleton]; unfold cc0__qkv_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0 | sl_exact k0_hw1 | sl_exact k0_hw2 | sl_exact k0_hw3 | sl_exact k0_hw4 | sl_exact k0_hw5 | sl_exact k0_hw6 | sl_exact k0_hw7 | sl_exact k0_hw8 | sl_exact k0_hw9 | sl_exact k0_hw10 | sl_exact k0_hw11 | sl_exact k0_hw12 | sl_exact k0_hw13 | sl_exact k0_hw14 | sl_exact k0_hw15 | sl_exact k0_hw16)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    iexists _; iexact H9

end Cert.KernelIdeal.Run

end
-- ==== Proof.KernelIdealRun.ProjLater.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # A later block of the projection pipeline

The body of the first pallas_call at any other grid point: the three projections of its block only. -/

set_option maxHeartbeats 20000000 in
/-- What the body leaves in its first three outputs at a later point, with the run that leaves it. -/
def projLater (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : ¬ k0_cond1 i = 1#1)
    (x0 : Vec F S1x16 .i32) (x1 : Vec F S512x1024 .f32) (x2 : Vec F S1024x1024 .f32) (x3 : Vec F S1024x1024 .f32) (x4 : Vec F S1024x1024 .f32)  :
    Σ' (L5 : List (View.Piece (Elt F) S512x1024 .bf16)) (L6 : List (View.Piece (Elt F) S512x1024 .bf16)) (L7 : List (View.Piece (Elt F) S512x1024 .bf16)),
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7)) -∗ K ⟨⟩))
          ⊢ wp frame (wpE (defs₀ (F := F)) Variants.none c none) E (cc0__qkv_body i arg1 harg1 arg2 harg2 arg3 harg3 arg4 harg4 arg5 harg5 arg6 harg6 arg7 harg7 arg8 harg8 arg9 harg9 arg10 harg10) K := by
  refine ⟨?_, ?_, ?_, fun E K => ?run⟩
  case run =>
    simp only [cc0__qkv_body_eq_skeleton]; unfold cc0__qkv_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    iexists _; iexact H7

end Cert.KernelIdeal.Run

end
-- ==== Proof.KernelIdealRun.ProjClosed.lean ====
module

public import proofs.«01_k».proof.Proof.KernelIdealRun.ProjFirst
public import proofs.«01_k».proof.Proof.KernelIdealRun.ProjLater
public import proofs.«01_k».proof.Proof.KernelIdealRun.AttnPieces

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # The body of the projection pipeline, in closed form -/

/-- The cell of the index row that holds the `g`-th selected row's number. -/
def gcell (g : Fin 16) : S1x16.Idx := fun a => ⟨![0, g.val] a, by
  fin_cases a
  · exact Nat.zero_lt_one
  · exact g.isLt⟩

/-- The rectangle of the row the `g`-th index selects lies in the first block. -/
theorem selRow_inb (x0 : Vec F S1x16 .i32) (g : Fin 16) :
    ∀ a, (![min (x0 (gcell g)).toNat 511, 0] : Fin 2 → ℕ) a + S1x1024.size a ≤ S512x1024.size a := fun a => by
  fin_cases a
  · show min (x0 (gcell g)).toNat 511 + 1 ≤ 512
    omega
  · exact Nat.le_refl _

/-- The `g`-th selected row of the block. -/
def selRow (x0 : Vec F S1x16 .i32) (x1 : Vec F S512x1024 .f32) (g : Fin 16) : Vec F S1x1024 .f32 :=
  VecWindow.window x1 ![min (x0 (gcell g)).toNat 511, 0] S1x1024.size (selRow_inb x0 g)

/-- The sixteen selected rows, rounded. -/
def gathered (x0 : Vec F S1x16 .i32) (x1 : Vec F S512x1024 .f32) : FVec F S16x1024 .bf16 :=
  k0_pay7 (k0_pay10 (selRow x0 x1 0)) (k0_pay11 (selRow x0 x1 1)) (k0_pay12 (selRow x0 x1 2)) (k0_pay13 (selRow x0 x1 3)) (k0_pay14 (selRow x0 x1 4)) (k0_pay15 (selRow x0 x1 5)) (k0_pay16 (selRow x0 x1 6)) (k0_pay17 (selRow x0 x1 7)) (k0_pay18 (selRow x0 x1 8)) (k0_pay19 (selRow x0 x1 9)) (k0_pay20 (selRow x0 x1 10)) (k0_pay21 (selRow x0 x1 11)) (k0_pay22 (selRow x0 x1 12)) (k0_pay23 (selRow x0 x1 13)) (k0_pay24 (selRow x0 x1 14)) (selRow x0 x1 15)

/-- The word read at cell `g` of a whole index row holding `x0`. -/
theorem word_eq (x0 : Vec F S1x16 .i32) (g : Fin 16) {off : Fin 2 → ℕ} (h : off = ![0, g.val])
    (inb : ∀ a, off a + S1x1.size a ≤ S1x16.size a) (y : S1x1.Idx) :
    VecWindow.window (s := S1x16) x0 off S1x1.size inb y = x0 (gcell g) := by
  subst h
  refine congrArg x0 (funext fun a => Fin.ext ?_)
  show (![0, g.val] : Fin 2 → ℕ) a + 1 * (y a).val = (![0, g.val] : Fin 2 → ℕ) a
  have hy : (y a).val < 1 := by
    have := (y a).isLt
    fin_cases a <;> exact this
  omega

/-- A window depends on its offsets only. -/
theorem window_congr {s : Shape} {e : EltTy} (x : Vec F s e) {off off' size : Fin s.rank → ℕ} (h : off = off')
    (inb : ∀ a, off a + size a ≤ s.size a) (inb' : ∀ a, off' a + size a ≤ s.size a) :
    VecWindow.window x off size inb = VecWindow.window x off' size inb' := by
  subst h; rfl

/-- The window a selected row's number picks out of the block is that row. -/
theorem row_eq (x0 : Vec F S1x16 .i32) (x1 : Vec F S512x1024 .f32) (g : Fin 16) (hw : (x0 (gcell g)).toNat < 512)
    {off : Fin 2 → ℕ} (h : off = ![(x0 (gcell g)).toNat, 0]) (inb : ∀ a, off a + S1x1024.size a ≤ S512x1024.size a) :
    VecWindow.window (s := S512x1024) x1 off S1x1024.size inb = selRow x0 x1 g := by
  have e : (![(x0 (gcell g)).toNat, 0] : Fin 2 → ℕ) = ![min (x0 (gcell g)).toNat 511, 0] := by
    rw [Nat.min_eq_left (by omega)]
  exact window_congr _ (h.trans e) _ _

/-- The row the body reads at the `g`-th selected row's number is that row. -/
theorem row_raw (x0 : Vec F S1x16 .i32) (x1 : Vec F S512x1024 .f32) (g : Fin 16) (hw : (x0 (gcell g)).toNat < 512)
    (arg1 : Memref sig .tc .smem S1x16 .i32) (harg1 : arg1.IsWhole) (arg2 : Memref sig .tc .vmem S512x1024 .f32) (harg2 : arg2.IsWhole)
    (inb0 : ∀ a, (![0, g.val] : Fin 2 → ℕ) a + S1x1.size a ≤ S1x16.size a) (y : S1x1.Idx)
    {offs : BitVec 32 → Fin 2 → ℕ} (ho : ∀ w, offs w = ![w.toNat, 0])
    (inb : ∀ a, offs (arg1.view.readAt (Elt F) (Rect.unit (s := S1x16) ![0, g.val] S1x1.size inb0).toLoadRect (harg1.unread x0) y) a + S1x1024.size a ≤ S512x1024.size a) :
    arg2.view.readAt (Elt F) (Rect.unit (s := S512x1024)
      (offs (arg1.view.readAt (Elt F) (Rect.unit (s := S1x16) ![0, g.val] S1x1.size inb0).toLoadRect (harg1.unread x0) y)) S1x1024.size inb).toLoadRect (harg2.unread x1)
      = selRow x0 x1 g := by
  refine (rd arg2 harg2 x1 inb).trans (row_eq x0 x1 g hw ?_ _)
  rw [ho, rd, word_eq x0 g rfl]

/-- The joined rows are equal when the rows are. -/
theorem rows_congr {a0 a1 a2 a3 a4 a5 a6 a7 a8 a9 a10 a11 a12 a13 a14 a15 b0 b1 b2 b3 b4 b5 b6 b7 b8 b9 b10 b11 b12 b13 b14 b15 : FVec F S1x1024 .f32} (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    k0_pay7 a0 a1 a2 a3 a4 a5 a6 a7 a8 a9 a10 a11 a12 a13 a14 a15 = k0_pay7 b0 b1 b2 b3 b4 b5 b6 b7 b8 b9 b10 b11 b12 b13 b14 b15 := by
  subst h0 h1 h2 h3 h4 h5 h6 h7 h8 h9 h10 h11 h12 h13 h14 h15; rfl

/-- A word under 512 names a row of the first block: the two offsets and the bound the body asks for. -/
theorem chk_of_lt (w : BitVec 32) (hw : w.toNat < 512) (a : Fin 2) :
    (![w.toNat, 0] : Fin 2 → ℕ) a + S1x1024.size a ≤ S512x1024.size a := by
  fin_cases a
  · show w.toNat + 1 ≤ 512
    omega
  · exact Nat.le_refl _

/-- The side condition the body assumes of word 0 holds when the words are under 512. -/
theorem hwit1 (x0 : Vec F S1x16 .i32) (hw : ∀ g, (x0 (gcell g)).toNat < 512) (i : grid0.Coords) (arg1 : Memref sig .tc .smem S1x16 .i32) (harg1 : arg1.IsWhole) :
    k0_chk1 i (arg1.view.readAt (Elt F) (Rect.unit (s := S1x16) ![0, 0] S1x1.size inb_S1x16_S1x1_0_0).toLoadRect (harg1.unread x0) (Shape.Idx.first (numel1_S1x1.symm ▸ Nat.one_pos))) := by
  rw [rd, word_eq x0 0 (off := ![0, 0]) rfl]
  exact fun _ a => chk_of_lt _ (hw 0) a

/-- The side condition the body assumes of word 1 holds when the words are under 512. -/
theorem hwit2 (x0 : Vec F S1x16 .i32) (hw : ∀ g, (x0 (gcell g)).toNat < 512) (i : grid0.Coords) (arg1 : Memref sig .tc .smem S1x16 .i32) (harg1 : arg1.IsWhole) :
    k0_chk2 i (arg1.view.readAt (Elt F) (Rect.unit (s := S1x16) ![0, 1] S1x1.size inb_S1x16_S1x1_0_1).toLoadRect (harg1.unread x0) (Shape.Idx.first (numel1_S1x1.symm ▸ Nat.one_pos))) := by
  rw [rd, word_eq x0 1 (off := ![0, 1]) rfl]
  exact fun _ a => chk_of_lt _ (hw 1) a

/-- The side condition the body assumes of word 2 holds when the words are under 512. -/
theorem hwit3 (x0 : Vec F S1x16 .i32) (hw : ∀ g, (x0 (gcell g)).toNat < 512) (i : grid0.Coords) (arg1 : Memref sig .tc .smem S1x16 .i32) (harg1 : arg1.IsWhole) :
    k0_chk3 i (arg1.view.readAt (Elt F) (Rect.unit (s := S1x16) ![0, 2] S1x1.size inb_S1x16_S1x1_0_2).toLoadRect (harg1.unread x0) (Shape.Idx.first (numel1_S1x1.symm ▸ Nat.one_pos))) := by
  rw [rd, word_eq x0 2 (off := ![0, 2]) rfl]
  exact fun _ a => chk_of_lt _ (hw 2) a

/-- The side condition the body assumes of word 3 holds when the words are under 512. -/
theorem hwit4 (x0 : Vec F S1x16 .i32) (hw : ∀ g, (x0 (gcell g)).toNat < 512) (i : grid0.Coords) (arg1 : Memref sig .tc .smem S1x16 .i32) (harg1 : arg1.IsWhole) :
    k0_chk4 i (arg1.view.readAt (Elt F) (Rect.unit (s := S1x16) ![0, 3] S1x1.size inb_S1x16_S1x1_0_3).toLoadRect (harg1.unread x0) (Shape.Idx.first (numel1_S1x1.symm ▸ Nat.one_pos))) := by
  rw [rd, word_eq x0 3 (off := ![0, 3]) rfl]
  exact fun _ a => chk_of_lt _ (hw 3) a

/-- The side condition the body assumes of word 4 holds when the words are under 512. -/
theorem hwit5 (x0 : Vec F S1x16 .i32) (hw : ∀ g, (x0 (gcell g)).toNat < 512) (i : grid0.Coords) (arg1 : Memref sig .tc .smem S1x16 .i32) (harg1 : arg1.IsWhole) :
    k0_chk5 i (arg1.view.readAt (Elt F) (Rect.unit (s := S1x16) ![0, 4] S1x1.size inb_S1x16_S1x1_0_4).toLoadRect (harg1.unread x0) (Shape.Idx.first (numel1_S1x1.symm ▸ Nat.one_pos))) := by
  rw [rd, word_eq x0 4 (off := ![0, 4]) rfl]
  exact fun _ a => chk_of_lt _ (hw 4) a

/-- The side condition the body assumes of word 5 holds when the words are under 512. -/
theorem hwit6 (x0 : Vec F S1x16 .i32) (hw : ∀ g, (x0 (gcell g)).toNat < 512) (i : grid0.Coords) (arg1 : Memref sig .tc .smem S1x16 .i32) (harg1 : arg1.IsWhole) :
    k0_chk6 i (arg1.view.readAt (Elt F) (Rect.unit (s := S1x16) ![0, 5] S1x1.size inb_S1x16_S1x1_0_5).toLoadRect (harg1.unread x0) (Shape.Idx.first (numel1_S1x1.symm ▸ Nat.one_pos))) := by
  rw [rd, word_eq x0 5 (off := ![0, 5]) rfl]
  exact fun _ a => chk_of_lt _ (hw 5) a

/-- The side condition the body assumes of word 6 holds when the words are under 512. -/
theorem hwit7 (x0 : Vec F S1x16 .i32) (hw : ∀ g, (x0 (gcell g)).toNat < 512) (i : grid0.Coords) (arg1 : Memref sig .tc .smem S1x16 .i32) (harg1 : arg1.IsWhole) :
    k0_chk7 i (arg1.view.readAt (Elt F) (Rect.unit (s := S1x16) ![0, 6] S1x1.size inb_S1x16_S1x1_0_6).toLoadRect (harg1.unread x0) (Shape.Idx.first (numel1_S1x1.symm ▸ Nat.one_pos))) := by
  rw [rd, word_eq x0 6 (off := ![0, 6]) rfl]
  exact fun _ a => chk_of_lt _ (hw 6) a

/-- The side condition the body assumes of word 7 holds when the words are under 512. -/
theorem hwit8 (x0 : Vec F S1x16 .i32) (hw : ∀ g, (x0 (gcell g)).toNat < 512) (i : grid0.Coords) (arg1 : Memref sig .tc .smem S1x16 .i32) (harg1 : arg1.IsWhole) :
    k0_chk8 i (arg1.view.readAt (Elt F) (Rect.unit (s := S1x16) ![0, 7] S1x1.size inb_S1x16_S1x1_0_7).toLoadRect (harg1.unread x0) (Shape.Idx.first (numel1_S1x1.symm ▸ Nat.one_pos))) := by
  rw [rd, word_eq x0 7 (off := ![0, 7]) rfl]
  exact fun _ a => chk_of_lt _ (hw 7) a

/-- The side condition the body assumes of word 8 holds when the words are under 512. -/
theorem hwit9 (x0 : Vec F S1x16 .i32) (hw : ∀ g, (x0 (gcell g)).toNat < 512) (i : grid0.Coords) (arg1 : Memref sig .tc .smem S1x16 .i32) (harg1 : arg1.IsWhole) :
    k0_chk9 i (arg1.view.readAt (Elt F) (Rect.unit (s := S1x16) ![0, 8] S1x1.size inb_S1x16_S1x1_0_8).toLoadRect (harg1.unread x0) (Shape.Idx.first (numel1_S1x1.symm ▸ Nat.one_pos))) := by
  rw [rd, word_eq x0 8 (off := ![0, 8]) rfl]
  exact fun _ a => chk_of_lt _ (hw 8) a

/-- The side condition the body assumes of word 9 holds when the words are under 512. -/
theorem hwit10 (x0 : Vec F S1x16 .i32) (hw : ∀ g, (x0 (gcell g)).toNat < 512) (i : grid0.Coords) (arg1 : Memref sig .tc .smem S1x16 .i32) (harg1 : arg1.IsWhole) :
    k0_chk10 i (arg1.view.readAt (Elt F) (Rect.unit (s := S1x16) ![0, 9] S1x1.size inb_S1x16_S1x1_0_9).toLoadRect (harg1.unread x0) (Shape.Idx.first (numel1_S1x1.symm ▸ Nat.one_pos))) := by
  rw [rd, word_eq x0 9 (off := ![0, 9]) rfl]
  exact fun _ a => chk_of_lt _ (hw 9) a

/-- The side condition the body assumes of word 10 holds when the words are under 512. -/
theorem hwit11 (x0 : Vec F S1x16 .i32) (hw : ∀ g, (x0 (gcell g)).toNat < 512) (i : grid0.Coords) (arg1 : Memref sig .tc .smem S1x16 .i32) (harg1 : arg1.IsWhole) :
    k0_chk11 i (arg1.view.readAt (Elt F) (Rect.unit (s := S1x16) ![0, 10] S1x1.size inb_S1x16_S1x1_0_10).toLoadRect (harg1.unread x0) (Shape.Idx.first (numel1_S1x1.symm ▸ Nat.one_pos))) := by
  rw [rd, word_eq x0 10 (off := ![0, 10]) rfl]
  exact fun _ a => chk_of_lt _ (hw 10) a

/-- The side condition the body assumes of word 11 holds when the words are under 512. -/
theorem hwit12 (x0 : Vec F S1x16 .i32) (hw : ∀ g, (x0 (gcell g)).toNat < 512) (i : grid0.Coords) (arg1 : Memref sig .tc .smem S1x16 .i32) (harg1 : arg1.IsWhole) :
    k0_chk12 i (arg1.view.readAt (Elt F) (Rect.unit (s := S1x16) ![0, 11] S1x1.size inb_S1x16_S1x1_0_11).toLoadRect (harg1.unread x0) (Shape.Idx.first (numel1_S1x1.symm ▸ Nat.one_pos))) := by
  rw [rd, word_eq x0 11 (off := ![0, 11]) rfl]
  exact fun _ a => chk_of_lt _ (hw 11) a

/-- The side condition the body assumes of word 12 holds when the words are under 512. -/
theorem hwit13 (x0 : Vec F S1x16 .i32) (hw : ∀ g, (x0 (gcell g)).toNat < 512) (i : grid0.Coords) (arg1 : Memref sig .tc .smem S1x16 .i32) (harg1 : arg1.IsWhole) :
    k0_chk13 i (arg1.view.readAt (Elt F) (Rect.unit (s := S1x16) ![0, 12] S1x1.size inb_S1x16_S1x1_0_12).toLoadRect (harg1.unread x0) (Shape.Idx.first (numel1_S1x1.symm ▸ Nat.one_pos))) := by
  rw [rd, word_eq x0 12 (off := ![0, 12]) rfl]
  exact fun _ a => chk_of_lt _ (hw 12) a

/-- The side condition the body assumes of word 13 holds when the words are under 512. -/
theorem hwit14 (x0 : Vec F S1x16 .i32) (hw : ∀ g, (x0 (gcell g)).toNat < 512) (i : grid0.Coords) (arg1 : Memref sig .tc .smem S1x16 .i32) (harg1 : arg1.IsWhole) :
    k0_chk14 i (arg1.view.readAt (Elt F) (Rect.unit (s := S1x16) ![0, 13] S1x1.size inb_S1x16_S1x1_0_13).toLoadRect (harg1.unread x0) (Shape.Idx.first (numel1_S1x1.symm ▸ Nat.one_pos))) := by
  rw [rd, word_eq x0 13 (off := ![0, 13]) rfl]
  exact fun _ a => chk_of_lt _ (hw 13) a

/-- The side condition the body assumes of word 14 holds when the words are under 512. -/
theorem hwit15 (x0 : Vec F S1x16 .i32) (hw : ∀ g, (x0 (gcell g)).toNat < 512) (i : grid0.Coords) (arg1 : Memref sig .tc .smem S1x16 .i32) (harg1 : arg1.IsWhole) :
    k0_chk15 i (arg1.view.readAt (Elt F) (Rect.unit (s := S1x16) ![0, 14] S1x1.size inb_S1x16_S1x1_0_14).toLoadRect (harg1.unread x0) (Shape.Idx.first (numel1_S1x1.symm ▸ Nat.one_pos))) := by
  rw [rd, word_eq x0 14 (off := ![0, 14]) rfl]
  exact fun _ a => chk_of_lt _ (hw 14) a

/-- The side condition the body assumes of word 15 holds when the words are under 512. -/
theorem hwit16 (x0 : Vec F S1x16 .i32) (hw : ∀ g, (x0 (gcell g)).toNat < 512) (i : grid0.Coords) (arg1 : Memref sig .tc .smem S1x16 .i32) (harg1 : arg1.IsWhole) :
    k0_chk16 i (arg1.view.readAt (Elt F) (Rect.unit (s := S1x16) ![0, 15] S1x1.size inb_S1x16_S1x1_0_15).toLoadRect (harg1.unread x0) (Shape.Idx.first (numel1_S1x1.symm ▸ Nat.one_pos))) := by
  rw [rd, word_eq x0 15 (off := ![0, 15]) rfl]
  exact fun _ a => chk_of_lt _ (hw 15) a

end Cert.KernelIdeal.Run

end
-- ==== Proof.KernelIdealRun.ProjBody.lean ====
module

public import proofs.«01_k».proof.Proof.KernelIdealRun.ProjClosed

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-- What the first point leaves in output 1 reads as its closed form. -/
theorem projFirst_read5 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : k0_cond1 i = 1#1)
    (x0 : Vec F S1x16 .i32) (x1 : Vec F S512x1024 .f32) (x2 : Vec F S1024x1024 .f32) (x3 : Vec F S1024x1024 .f32) (x4 : Vec F S1024x1024 .f32) (k0_hw1 : k0_chk1 i (arg1.view.readAt (Elt F) (Rect.unit (s := S1x16) ![0, 0] S1x1.size inb_S1x16_S1x1_0_0).toLoadRect (harg1.unread x0) (Shape.Idx.first (numel1_S1x1.symm ▸ Nat.one_pos)))) (k0_hw2 : k0_chk2 i (arg1.view.readAt (Elt F) (Rect.unit (s := S1x16) ![0, 1] S1x1.size inb_S1x16_S1x1_0_1).toLoadRect (harg1.unread x0) (Shape.Idx.first (numel1_S1x1.symm ▸ Nat.one_pos)))) (k0_hw3 : k0_chk3 i (arg1.view.readAt (Elt F) (Rect.unit (s := S1x16) ![0, 2] S1x1.size inb_S1x16_S1x1_0_2).toLoadRect (harg1.unread x0) (Shape.Idx.first (numel1_S1x1.symm ▸ Nat.one_pos)))) (k0_hw4 : k0_chk4 i (arg1.view.readAt (Elt F) (Rect.unit (s := S1x16) ![0, 3] S1x1.size inb_S1x16_S1x1_0_3).toLoadRect (harg1.unread x0) (Shape.Idx.first (numel1_S1x1.symm ▸ Nat.one_pos)))) (k0_hw5 : k0_chk5 i (arg1.view.readAt (Elt F) (Rect.unit (s := S1x16) ![0, 4] S1x1.size inb_S1x16_S1x1_0_4).toLoadRect (harg1.unread x0) (Shape.Idx.first (numel1_S1x1.symm ▸ Nat.one_pos)))) (k0_hw6 : k0_chk6 i (arg1.view.readAt (Elt F) (Rect.unit (s := S1x16) ![0, 5] S1x1.size inb_S1x16_S1x1_0_5).toLoadRect (harg1.unread x0) (Shape.Idx.first (numel1_S1x1.symm ▸ Nat.one_pos)))) (k0_hw7 : k0_chk7 i (arg1.view.readAt (Elt F) (Rect.unit (s := S1x16) ![0, 6] S1x1.size inb_S1x16_S1x1_0_6).toLoadRect (harg1.unread x0) (Shape.Idx.first (numel1_S1x1.symm ▸ Nat.one_pos)))) (k0_hw8 : k0_chk8 i (arg1.view.readAt (Elt F) (Rect.unit (s := S1x16) ![0, 7] S1x1.size inb_S1x16_S1x1_0_7).toLoadRect (harg1.unread x0) (Shape.Idx.first (numel1_S1x1.symm ▸ Nat.one_pos)))) (k0_hw9 : k0_chk9 i (arg1.view.readAt (Elt F) (Rect.unit (s := S1x16) ![0, 8] S1x1.size inb_S1x16_S1x1_0_8).toLoadRect (harg1.unread x0) (Shape.Idx.first (numel1_S1x1.symm ▸ Nat.one_pos)))) (k0_hw10 : k0_chk10 i (arg1.view.readAt (Elt F) (Rect.unit (s := S1x16) ![0, 9] S1x1.size inb_S1x16_S1x1_0_9).toLoadRect (harg1.unread x0) (Shape.Idx.first (numel1_S1x1.symm ▸ Nat.one_pos)))) (k0_hw11 : k0_chk11 i (arg1.view.readAt (Elt F) (Rect.unit (s := S1x16) ![0, 10] S1x1.size inb_S1x16_S1x1_0_10).toLoadRect (harg1.unread x0) (Shape.Idx.first (numel1_S1x1.symm ▸ Nat.one_pos)))) (k0_hw12 : k0_chk12 i (arg1.view.readAt (Elt F) (Rect.unit (s := S1x16) ![0, 11] S1x1.size inb_S1x16_S1x1_0_11).toLoadRect (harg1.unread x0) (Shape.Idx.first (numel1_S1x1.symm ▸ Nat.one_pos)))) (k0_hw13 : k0_chk13 i (arg1.view.readAt (Elt F) (Rect.unit (s := S1x16) ![0, 12] S1x1.size inb_S1x16_S1x1_0_12).toLoadRect (harg1.unread x0) (Shape.Idx.first (numel1_S1x1.symm ▸ Nat.one_pos)))) (k0_hw14 : k0_chk14 i (arg1.view.readAt (Elt F) (Rect.unit (s := S1x16) ![0, 13] S1x1.size inb_S1x16_S1x1_0_13).toLoadRect (harg1.unread x0) (Shape.Idx.first (numel1_S1x1.symm ▸ Nat.one_pos)))) (k0_hw15 : k0_chk15 i (arg1.view.readAt (Elt F) (Rect.unit (s := S1x16) ![0, 14] S1x1.size inb_S1x16_S1x1_0_14).toLoadRect (harg1.unread x0) (Shape.Idx.first (numel1_S1x1.symm ▸ Nat.one_pos)))) (k0_hw16 : k0_chk16 i (arg1.view.readAt (Elt F) (Rect.unit (s := S1x16) ![0, 15] S1x1.size inb_S1x16_S1x1_0_15).toLoadRect (harg1.unread x0) (Shape.Idx.first (numel1_S1x1.symm ▸ Nat.one_pos)))) (f : arg6.view.ty.Contents (Elt F)) :
    arg6.view.read (Elt F) (arg6.view.writes (Elt F) f (projFirst c i arg1 harg1 arg2 harg2 arg3 harg3 arg4 harg4 arg5 harg5 arg6 harg6 arg7 harg7 arg8 harg8 arg9 harg9 arg10 harg10 hc0 x0 x1 x2 x3 x4 k0_hw1 k0_hw2 k0_hw3 k0_hw4 k0_hw5 k0_hw6 k0_hw7 k0_hw8 k0_hw9 k0_hw10 k0_hw11 k0_hw12 k0_hw13 k0_hw14 k0_hw15 k0_hw16).1) = k0_pay4 x1 x2 := by
  refine (View.read_writes_full _ _ inb_S512x1024_S512x1024_0_0 _ _).trans ?_
  dsimp only [projFirst]
  simp only [rd]
  exact congrArg₂ k0_pay4 (whole_window x1 _) (whole_window _ _)

/-- What the first point leaves in output 2 reads as its closed form. -/
theorem projFirst_read6 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : k0_cond1 i = 1#1)
    (x0 : Vec F S1x16 .i32) (x1 : Vec F S512x1024 .f32) (x2 : Vec F S1024x1024 .f32) (x3 : Vec F S1024x1024 .f32) (x4 : Vec F S1024x1024 .f32) (k0_hw1 : k0_chk1 i (arg1.view.readAt (Elt F) (Rect.unit (s := S1x16) ![0, 0] S1x1.size inb_S1x16_S1x1_0_0).toLoadRect (harg1.unread x0) (Shape.Idx.first (numel1_S1x1.symm ▸ Nat.one_pos)))) (k0_hw2 : k0_chk2 i (arg1.view.readAt (Elt F) (Rect.unit (s := S1x16) ![0, 1] S1x1.size inb_S1x16_S1x1_0_1).toLoadRect (harg1.unread x0) (Shape.Idx.first (numel1_S1x1.symm ▸ Nat.one_pos)))) (k0_hw3 : k0_chk3 i (arg1.view.readAt (Elt F) (Rect.unit (s := S1x16) ![0, 2] S1x1.size inb_S1x16_S1x1_0_2).toLoadRect (harg1.unread x0) (Shape.Idx.first (numel1_S1x1.symm ▸ Nat.one_pos)))) (k0_hw4 : k0_chk4 i (arg1.view.readAt (Elt F) (Rect.unit (s := S1x16) ![0, 3] S1x1.size inb_S1x16_S1x1_0_3).toLoadRect (harg1.unread x0) (Shape.Idx.first (numel1_S1x1.symm ▸ Nat.one_pos)))) (k0_hw5 : k0_chk5 i (arg1.view.readAt (Elt F) (Rect.unit (s := S1x16) ![0, 4] S1x1.size inb_S1x16_S1x1_0_4).toLoadRect (harg1.unread x0) (Shape.Idx.first (numel1_S1x1.symm ▸ Nat.one_pos)))) (k0_hw6 : k0_chk6 i (arg1.view.readAt (Elt F) (Rect.unit (s := S1x16) ![0, 5] S1x1.size inb_S1x16_S1x1_0_5).toLoadRect (harg1.unread x0) (Shape.Idx.first (numel1_S1x1.symm ▸ Nat.one_pos)))) (k0_hw7 : k0_chk7 i (arg1.view.readAt (Elt F) (Rect.unit (s := S1x16) ![0, 6] S1x1.size inb_S1x16_S1x1_0_6).toLoadRect (harg1.unread x0) (Shape.Idx.first (numel1_S1x1.symm ▸ Nat.one_pos)))) (k0_hw8 : k0_chk8 i (arg1.view.readAt (Elt F) (Rect.unit (s := S1x16) ![0, 7] S1x1.size inb_S1x16_S1x1_0_7).toLoadRect (harg1.unread x0) (Shape.Idx.first (numel1_S1x1.symm ▸ Nat.one_pos)))) (k0_hw9 : k0_chk9 i (arg1.view.readAt (Elt F) (Rect.unit (s := S1x16) ![0, 8] S1x1.size inb_S1x16_S1x1_0_8).toLoadRect (harg1.unread x0) (Shape.Idx.first (numel1_S1x1.symm ▸ Nat.one_pos)))) (k0_hw10 : k0_chk10 i (arg1.view.readAt (Elt F) (Rect.unit (s := S1x16) ![0, 9] S1x1.size inb_S1x16_S1x1_0_9).toLoadRect (harg1.unread x0) (Shape.Idx.first (numel1_S1x1.symm ▸ Nat.one_pos)))) (k0_hw11 : k0_chk11 i (arg1.view.readAt (Elt F) (Rect.unit (s := S1x16) ![0, 10] S1x1.size inb_S1x16_S1x1_0_10).toLoadRect (harg1.unread x0) (Shape.Idx.first (numel1_S1x1.symm ▸ Nat.one_pos)))) (k0_hw12 : k0_chk12 i (arg1.view.readAt (Elt F) (Rect.unit (s := S1x16) ![0, 11] S1x1.size inb_S1x16_S1x1_0_11).toLoadRect (harg1.unread x0) (Shape.Idx.first (numel1_S1x1.symm ▸ Nat.one_pos)))) (k0_hw13 : k0_chk13 i (arg1.view.readAt (Elt F) (Rect.unit (s := S1x16) ![0, 12] S1x1.size inb_S1x16_S1x1_0_12).toLoadRect (harg1.unread x0) (Shape.Idx.first (numel1_S1x1.symm ▸ Nat.one_pos)))) (k0_hw14 : k0_chk14 i (arg1.view.readAt (Elt F) (Rect.unit (s := S1x16) ![0, 13] S1x1.size inb_S1x16_S1x1_0_13).toLoadRect (harg1.unread x0) (Shape.Idx.first (numel1_S1x1.symm ▸ Nat.one_pos)))) (k0_hw15 : k0_chk15 i (arg1.view.readAt (Elt F) (Rect.unit (s := S1x16) ![0, 14] S1x1.size inb_S1x16_S1x1_0_14).toLoadRect (harg1.unread x0) (Shape.Idx.first (numel1_S1x1.symm ▸ Nat.one_pos)))) (k0_hw16 : k0_chk16 i (arg1.view.readAt (Elt F) (Rect.unit (s := S1x16) ![0, 15] S1x1.size inb_S1x16_S1x1_0_15).toLoadRect (harg1.unread x0) (Shape.Idx.first (numel1_S1x1.symm ▸ Nat.one_pos)))) (f : arg7.view.ty.Contents (Elt F)) :
    arg7.view.read (Elt F) (arg7.view.writes (Elt F) f (projFirst c i arg1 harg1 arg2 harg2 arg3 harg3 arg4 harg4 arg5 harg5 arg6 harg6 arg7 harg7 arg8 harg8 arg9 harg9 arg10 harg10 hc0 x0 x1 x2 x3 x4 k0_hw1 k0_hw2 k0_hw3 k0_hw4 k0_hw5 k0_hw6 k0_hw7 k0_hw8 k0_hw9 k0_hw10 k0_hw11 k0_hw12 k0_hw13 k0_hw14 k0_hw15 k0_hw16).2.1) = k0_pay5 x1 x3 := by
  refine (View.read_writes_full _ _ inb_S512x1024_S512x1024_0_0 _ _).trans ?_
  dsimp only [projFirst]
  simp only [rd]
  exact congrArg₂ k0_pay5 (whole_window x1 _) (whole_window _ _)

/-- What the first point leaves in output 3 reads as its closed form. -/
theorem projFirst_read7 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : k0_cond1 i = 1#1)
    (x0 : Vec F S1x16 .i32) (x1 : Vec F S512x1024 .f32) (x2 : Vec F S1024x1024 .f32) (x3 : Vec F S1024x1024 .f32) (x4 : Vec F S1024x1024 .f32) (k0_hw1 : k0_chk1 i (arg1.view.readAt (Elt F) (Rect.unit (s := S1x16) ![0, 0] S1x1.size inb_S1x16_S1x1_0_0).toLoadRect (harg1.unread x0) (Shape.Idx.first (numel1_S1x1.symm ▸ Nat.one_pos)))) (k0_hw2 : k0_chk2 i (arg1.view.readAt (Elt F) (Rect.unit (s := S1x16) ![0, 1] S1x1.size inb_S1x16_S1x1_0_1).toLoadRect (harg1.unread x0) (Shape.Idx.first (numel1_S1x1.symm ▸ Nat.one_pos)))) (k0_hw3 : k0_chk3 i (arg1.view.readAt (Elt F) (Rect.unit (s := S1x16) ![0, 2] S1x1.size inb_S1x16_S1x1_0_2).toLoadRect (harg1.unread x0) (Shape.Idx.first (numel1_S1x1.symm ▸ Nat.one_pos)))) (k0_hw4 : k0_chk4 i (arg1.view.readAt (Elt F) (Rect.unit (s := S1x16) ![0, 3] S1x1.size inb_S1x16_S1x1_0_3).toLoadRect (harg1.unread x0) (Shape.Idx.first (numel1_S1x1.symm ▸ Nat.one_pos)))) (k0_hw5 : k0_chk5 i (arg1.view.readAt (Elt F) (Rect.unit (s := S1x16) ![0, 4] S1x1.size inb_S1x16_S1x1_0_4).toLoadRect (harg1.unread x0) (Shape.Idx.first (numel1_S1x1.symm ▸ Nat.one_pos)))) (k0_hw6 : k0_chk6 i (arg1.view.readAt (Elt F) (Rect.unit (s := S1x16) ![0, 5] S1x1.size inb_S1x16_S1x1_0_5).toLoadRect (harg1.unread x0) (Shape.Idx.first (numel1_S1x1.symm ▸ Nat.one_pos)))) (k0_hw7 : k0_chk7 i (arg1.view.readAt (Elt F) (Rect.unit (s := S1x16) ![0, 6] S1x1.size inb_S1x16_S1x1_0_6).toLoadRect (harg1.unread x0) (Shape.Idx.first (numel1_S1x1.symm ▸ Nat.one_pos)))) (k0_hw8 : k0_chk8 i (arg1.view.readAt (Elt F) (Rect.unit (s := S1x16) ![0, 7] S1x1.size inb_S1x16_S1x1_0_7).toLoadRect (harg1.unread x0) (Shape.Idx.first (numel1_S1x1.symm ▸ Nat.one_pos)))) (k0_hw9 : k0_chk9 i (arg1.view.readAt (Elt F) (Rect.unit (s := S1x16) ![0, 8] S1x1.size inb_S1x16_S1x1_0_8).toLoadRect (harg1.unread x0) (Shape.Idx.first (numel1_S1x1.symm ▸ Nat.one_pos)))) (k0_hw10 : k0_chk10 i (arg1.view.readAt (Elt F) (Rect.unit (s := S1x16) ![0, 9] S1x1.size inb_S1x16_S1x1_0_9).toLoadRect (harg1.unread x0) (Shape.Idx.first (numel1_S1x1.symm ▸ Nat.one_pos)))) (k0_hw11 : k0_chk11 i (arg1.view.readAt (Elt F) (Rect.unit (s := S1x16) ![0, 10] S1x1.size inb_S1x16_S1x1_0_10).toLoadRect (harg1.unread x0) (Shape.Idx.first (numel1_S1x1.symm ▸ Nat.one_pos)))) (k0_hw12 : k0_chk12 i (arg1.view.readAt (Elt F) (Rect.unit (s := S1x16) ![0, 11] S1x1.size inb_S1x16_S1x1_0_11).toLoadRect (harg1.unread x0) (Shape.Idx.first (numel1_S1x1.symm ▸ Nat.one_pos)))) (k0_hw13 : k0_chk13 i (arg1.view.readAt (Elt F) (Rect.unit (s := S1x16) ![0, 12] S1x1.size inb_S1x16_S1x1_0_12).toLoadRect (harg1.unread x0) (Shape.Idx.first (numel1_S1x1.symm ▸ Nat.one_pos)))) (k0_hw14 : k0_chk14 i (arg1.view.readAt (Elt F) (Rect.unit (s := S1x16) ![0, 13] S1x1.size inb_S1x16_S1x1_0_13).toLoadRect (harg1.unread x0) (Shape.Idx.first (numel1_S1x1.symm ▸ Nat.one_pos)))) (k0_hw15 : k0_chk15 i (arg1.view.readAt (Elt F) (Rect.unit (s := S1x16) ![0, 14] S1x1.size inb_S1x16_S1x1_0_14).toLoadRect (harg1.unread x0) (Shape.Idx.first (numel1_S1x1.symm ▸ Nat.one_pos)))) (k0_hw16 : k0_chk16 i (arg1.view.readAt (Elt F) (Rect.unit (s := S1x16) ![0, 15] S1x1.size inb_S1x16_S1x1_0_15).toLoadRect (harg1.unread x0) (Shape.Idx.first (numel1_S1x1.symm ▸ Nat.one_pos)))) (f : arg8.view.ty.Contents (Elt F)) :
    arg8.view.read (Elt F) (arg8.view.writes (Elt F) f (projFirst c i arg1 harg1 arg2 harg2 arg3 harg3 arg4 harg4 arg5 harg5 arg6 harg6 arg7 harg7 arg8 harg8 arg9 harg9 arg10 harg10 hc0 x0 x1 x2 x3 x4 k0_hw1 k0_hw2 k0_hw3 k0_hw4 k0_hw5 k0_hw6 k0_hw7 k0_hw8 k0_hw9 k0_hw10 k0_hw11 k0_hw12 k0_hw13 k0_hw14 k0_hw15 k0_hw16).2.2.1) = k0_pay6 x1 x4 := by
  refine (View.read_writes_full _ _ inb_S512x1024_S512x1024_0_0 _ _).trans ?_
  dsimp only [projFirst]
  simp only [rd]
  exact congrArg₂ k0_pay6 (whole_window x1 _) (whole_window _ _)

set_option maxHeartbeats 4000000 in
/-- What the first point leaves in output 4 reads as its closed form. -/
theorem projFirst_read8 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : k0_cond1 i = 1#1)
    (x0 : Vec F S1x16 .i32) (x1 : Vec F S512x1024 .f32) (x2 : Vec F S1024x1024 .f32) (x3 : Vec F S1024x1024 .f32) (x4 : Vec F S1024x1024 .f32) (k0_hw1 : k0_chk1 i (arg1.view.readAt (Elt F) (Rect.unit (s := S1x16) ![0, 0] S1x1.size inb_S1x16_S1x1_0_0).toLoadRect (harg1.unread x0) (Shape.Idx.first (numel1_S1x1.symm ▸ Nat.one_pos)))) (k0_hw2 : k0_chk2 i (arg1.view.readAt (Elt F) (Rect.unit (s := S1x16) ![0, 1] S1x1.size inb_S1x16_S1x1_0_1).toLoadRect (harg1.unread x0) (Shape.Idx.first (numel1_S1x1.symm ▸ Nat.one_pos)))) (k0_hw3 : k0_chk3 i (arg1.view.readAt (Elt F) (Rect.unit (s := S1x16) ![0, 2] S1x1.size inb_S1x16_S1x1_0_2).toLoadRect (harg1.unread x0) (Shape.Idx.first (numel1_S1x1.symm ▸ Nat.one_pos)))) (k0_hw4 : k0_chk4 i (arg1.view.readAt (Elt F) (Rect.unit (s := S1x16) ![0, 3] S1x1.size inb_S1x16_S1x1_0_3).toLoadRect (harg1.unread x0) (Shape.Idx.first (numel1_S1x1.symm ▸ Nat.one_pos)))) (k0_hw5 : k0_chk5 i (arg1.view.readAt (Elt F) (Rect.unit (s := S1x16) ![0, 4] S1x1.size inb_S1x16_S1x1_0_4).toLoadRect (harg1.unread x0) (Shape.Idx.first (numel1_S1x1.symm ▸ Nat.one_pos)))) (k0_hw6 : k0_chk6 i (arg1.view.readAt (Elt F) (Rect.unit (s := S1x16) ![0, 5] S1x1.size inb_S1x16_S1x1_0_5).toLoadRect (harg1.unread x0) (Shape.Idx.first (numel1_S1x1.symm ▸ Nat.one_pos)))) (k0_hw7 : k0_chk7 i (arg1.view.readAt (Elt F) (Rect.unit (s := S1x16) ![0, 6] S1x1.size inb_S1x16_S1x1_0_6).toLoadRect (harg1.unread x0) (Shape.Idx.first (numel1_S1x1.symm ▸ Nat.one_pos)))) (k0_hw8 : k0_chk8 i (arg1.view.readAt (Elt F) (Rect.unit (s := S1x16) ![0, 7] S1x1.size inb_S1x16_S1x1_0_7).toLoadRect (harg1.unread x0) (Shape.Idx.first (numel1_S1x1.symm ▸ Nat.one_pos)))) (k0_hw9 : k0_chk9 i (arg1.view.readAt (Elt F) (Rect.unit (s := S1x16) ![0, 8] S1x1.size inb_S1x16_S1x1_0_8).toLoadRect (harg1.unread x0) (Shape.Idx.first (numel1_S1x1.symm ▸ Nat.one_pos)))) (k0_hw10 : k0_chk10 i (arg1.view.readAt (Elt F) (Rect.unit (s := S1x16) ![0, 9] S1x1.size inb_S1x16_S1x1_0_9).toLoadRect (harg1.unread x0) (Shape.Idx.first (numel1_S1x1.symm ▸ Nat.one_pos)))) (k0_hw11 : k0_chk11 i (arg1.view.readAt (Elt F) (Rect.unit (s := S1x16) ![0, 10] S1x1.size inb_S1x16_S1x1_0_10).toLoadRect (harg1.unread x0) (Shape.Idx.first (numel1_S1x1.symm ▸ Nat.one_pos)))) (k0_hw12 : k0_chk12 i (arg1.view.readAt (Elt F) (Rect.unit (s := S1x16) ![0, 11] S1x1.size inb_S1x16_S1x1_0_11).toLoadRect (harg1.unread x0) (Shape.Idx.first (numel1_S1x1.symm ▸ Nat.one_pos)))) (k0_hw13 : k0_chk13 i (arg1.view.readAt (Elt F) (Rect.unit (s := S1x16) ![0, 12] S1x1.size inb_S1x16_S1x1_0_12).toLoadRect (harg1.unread x0) (Shape.Idx.first (numel1_S1x1.symm ▸ Nat.one_pos)))) (k0_hw14 : k0_chk14 i (arg1.view.readAt (Elt F) (Rect.unit (s := S1x16) ![0, 13] S1x1.size inb_S1x16_S1x1_0_13).toLoadRect (harg1.unread x0) (Shape.Idx.first (numel1_S1x1.symm ▸ Nat.one_pos)))) (k0_hw15 : k0_chk15 i (arg1.view.readAt (Elt F) (Rect.unit (s := S1x16) ![0, 14] S1x1.size inb_S1x16_S1x1_0_14).toLoadRect (harg1.unread x0) (Shape.Idx.first (numel1_S1x1.symm ▸ Nat.one_pos)))) (k0_hw16 : k0_chk16 i (arg1.view.readAt (Elt F) (Rect.unit (s := S1x16) ![0, 15] S1x1.size inb_S1x16_S1x1_0_15).toLoadRect (harg1.unread x0) (Shape.Idx.first (numel1_S1x1.symm ▸ Nat.one_pos)))) (hw : ∀ g, (x0 (gcell g)).toNat < 512) (f : arg9.view.ty.Contents (Elt F)) :
    arg9.view.read (Elt F) (arg9.view.writes (Elt F) f (projFirst c i arg1 harg1 arg2 harg2 arg3 harg3 arg4 harg4 arg5 harg5 arg6 harg6 arg7 harg7 arg8 harg8 arg9 harg9 arg10 harg10 hc0 x0 x1 x2 x3 x4 k0_hw1 k0_hw2 k0_hw3 k0_hw4 k0_hw5 k0_hw6 k0_hw7 k0_hw8 k0_hw9 k0_hw10 k0_hw11 k0_hw12 k0_hw13 k0_hw14 k0_hw15 k0_hw16).2.2.2.1) = k0_pay8 x3 (gathered x0 x1) := by
  refine (View.read_writes_full _ _ inb_S16x1024_S16x1024_0_0 _ _).trans ?_
  dsimp only [projFirst]
  simp only [projFirst.sl.r, projFirst.sl.r_1, projFirst.sl.r_2, projFirst.sl.r_3, projFirst.sl.r_4, projFirst.sl.r_5, projFirst.sl.r_6, projFirst.sl.r_7, projFirst.sl.r_8, projFirst.sl.r_9, projFirst.sl.r_10, projFirst.sl.r_11, projFirst.sl.r_12, projFirst.sl.r_13, projFirst.sl.r_14, projFirst.sl.r_15, projFirst.sl.r_16, projFirst.sl.r_17, projFirst.sl.r_18, projFirst.sl.r_19, projFirst.sl.r_20, projFirst.sl.r_21, projFirst.sl.r_22, projFirst.sl.r_23, projFirst.sl.r_24, projFirst.sl.r_25, projFirst.sl.r_26, projFirst.sl.r_27, projFirst.sl.r_28, projFirst.sl.r_29, projFirst.sl.r_30]
  unfold gathered
  refine congrArg₂ k0_pay8 (rdFull _ _ _ _) (rows_congr ?_ ?_ ?_ ?_ ?_ ?_ ?_ ?_ ?_ ?_ ?_ ?_ ?_ ?_ ?_ ?_)
  · exact congrArg k0_pay10 (row_raw x0 x1 0 (hw 0) arg1 harg1 arg2 harg2 inb_S1x16_S1x1_0_0 _ (offs := k0_off1) (fun _ => rfl) _)
  · exact congrArg k0_pay11 (row_raw x0 x1 1 (hw 1) arg1 harg1 arg2 harg2 inb_S1x16_S1x1_0_1 _ (offs := k0_off2) (fun _ => rfl) _)
  · exact congrArg k0_pay12 (row_raw x0 x1 2 (hw 2) arg1 harg1 arg2 harg2 inb_S1x16_S1x1_0_2 _ (offs := k0_off3) (fun _ => rfl) _)
  · exact congrArg k0_pay13 (row_raw x0 x1 3 (hw 3) arg1 harg1 arg2 harg2 inb_S1x16_S1x1_0_3 _ (offs := k0_off4) (fun _ => rfl) _)
  · exact congrArg k0_pay14 (row_raw x0 x1 4 (hw 4) arg1 harg1 arg2 harg2 inb_S1x16_S1x1_0_4 _ (offs := k0_off5) (fun _ => rfl) _)
  · exact congrArg k0_pay15 (row_raw x0 x1 5 (hw 5) arg1 harg1 arg2 harg2 inb_S1x16_S1x1_0_5 _ (offs := k0_off6) (fun _ => rfl) _)
  · exact congrArg k0_pay16 (row_raw x0 x1 6 (hw 6) arg1 harg1 arg2 harg2 inb_S1x16_S1x1_0_6 _ (offs := k0_off7) (fun _ => rfl) _)
  · exact congrArg k0_pay17 (row_raw x0 x1 7 (hw 7) arg1 harg1 arg2 harg2 inb_S1x16_S1x1_0_7 _ (offs := k0_off8) (fun _ => rfl) _)
  · exact congrArg k0_pay18 (row_raw x0 x1 8 (hw 8) arg1 harg1 arg2 harg2 inb_S1x16_S1x1_0_8 _ (offs := k0_off9) (fun _ => rfl) _)
  · exact congrArg k0_pay19 (row_raw x0 x1 9 (hw 9) arg1 harg1 arg2 harg2 inb_S1x16_S1x1_0_9 _ (offs := k0_off10) (fun _ => rfl) _)
  · exact congrArg k0_pay20 (row_raw x0 x1 10 (hw 10) arg1 harg1 arg2 harg2 inb_S1x16_S1x1_0_10 _ (offs := k0_off11) (fun _ => rfl) _)
  · exact congrArg k0_pay21 (row_raw x0 x1 11 (hw 11) arg1 harg1 arg2 harg2 inb_S1x16_S1x1_0_11 _ (offs := k0_off12) (fun _ => rfl) _)
  · exact congrArg k0_pay22 (row_raw x0 x1 12 (hw 12) arg1 harg1 arg2 harg2 inb_S1x16_S1x1_0_12 _ (offs := k0_off13) (fun _ => rfl) _)
  · exact congrArg k0_pay23 (row_raw x0 x1 13 (hw 13) arg1 harg1 arg2 harg2 inb_S1x16_S1x1_0_13 _ (offs := k0_off14) (fun _ => rfl) _)
  · exact congrArg k0_pay24 (row_raw x0 x1 14 (hw 14) arg1 harg1 arg2 harg2 inb_S1x16_S1x1_0_14 _ (offs := k0_off15) (fun _ => rfl) _)
  · exact row_raw x0 x1 15 (hw 15) arg1 harg1 arg2 harg2 inb_S1x16_S1x1_0_15 _ (offs := k0_off16) (fun _ => rfl) _

set_option maxHeartbeats 4000000 in
/-- What the first point leaves in output 5 reads as its closed form. -/
theorem projFirst_read9 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : k0_cond1 i = 1#1)
    (x0 : Vec F S1x16 .i32) (x1 : Vec F S512x1024 .f32) (x2 : Vec F S1024x1024 .f32) (x3 : Vec F S1024x1024 .f32) (x4 : Vec F S1024x1024 .f32) (k0_hw1 : k0_chk1 i (arg1.view.readAt (Elt F) (Rect.unit (s := S1x16) ![0, 0] S1x1.size inb_S1x16_S1x1_0_0).toLoadRect (harg1.unread x0) (Shape.Idx.first (numel1_S1x1.symm ▸ Nat.one_pos)))) (k0_hw2 : k0_chk2 i (arg1.view.readAt (Elt F) (Rect.unit (s := S1x16) ![0, 1] S1x1.size inb_S1x16_S1x1_0_1).toLoadRect (harg1.unread x0) (Shape.Idx.first (numel1_S1x1.symm ▸ Nat.one_pos)))) (k0_hw3 : k0_chk3 i (arg1.view.readAt (Elt F) (Rect.unit (s := S1x16) ![0, 2] S1x1.size inb_S1x16_S1x1_0_2).toLoadRect (harg1.unread x0) (Shape.Idx.first (numel1_S1x1.symm ▸ Nat.one_pos)))) (k0_hw4 : k0_chk4 i (arg1.view.readAt (Elt F) (Rect.unit (s := S1x16) ![0, 3] S1x1.size inb_S1x16_S1x1_0_3).toLoadRect (harg1.unread x0) (Shape.Idx.first (numel1_S1x1.symm ▸ Nat.one_pos)))) (k0_hw5 : k0_chk5 i (arg1.view.readAt (Elt F) (Rect.unit (s := S1x16) ![0, 4] S1x1.size inb_S1x16_S1x1_0_4).toLoadRect (harg1.unread x0) (Shape.Idx.first (numel1_S1x1.symm ▸ Nat.one_pos)))) (k0_hw6 : k0_chk6 i (arg1.view.readAt (Elt F) (Rect.unit (s := S1x16) ![0, 5] S1x1.size inb_S1x16_S1x1_0_5).toLoadRect (harg1.unread x0) (Shape.Idx.first (numel1_S1x1.symm ▸ Nat.one_pos)))) (k0_hw7 : k0_chk7 i (arg1.view.readAt (Elt F) (Rect.unit (s := S1x16) ![0, 6] S1x1.size inb_S1x16_S1x1_0_6).toLoadRect (harg1.unread x0) (Shape.Idx.first (numel1_S1x1.symm ▸ Nat.one_pos)))) (k0_hw8 : k0_chk8 i (arg1.view.readAt (Elt F) (Rect.unit (s := S1x16) ![0, 7] S1x1.size inb_S1x16_S1x1_0_7).toLoadRect (harg1.unread x0) (Shape.Idx.first (numel1_S1x1.symm ▸ Nat.one_pos)))) (k0_hw9 : k0_chk9 i (arg1.view.readAt (Elt F) (Rect.unit (s := S1x16) ![0, 8] S1x1.size inb_S1x16_S1x1_0_8).toLoadRect (harg1.unread x0) (Shape.Idx.first (numel1_S1x1.symm ▸ Nat.one_pos)))) (k0_hw10 : k0_chk10 i (arg1.view.readAt (Elt F) (Rect.unit (s := S1x16) ![0, 9] S1x1.size inb_S1x16_S1x1_0_9).toLoadRect (harg1.unread x0) (Shape.Idx.first (numel1_S1x1.symm ▸ Nat.one_pos)))) (k0_hw11 : k0_chk11 i (arg1.view.readAt (Elt F) (Rect.unit (s := S1x16) ![0, 10] S1x1.size inb_S1x16_S1x1_0_10).toLoadRect (harg1.unread x0) (Shape.Idx.first (numel1_S1x1.symm ▸ Nat.one_pos)))) (k0_hw12 : k0_chk12 i (arg1.view.readAt (Elt F) (Rect.unit (s := S1x16) ![0, 11] S1x1.size inb_S1x16_S1x1_0_11).toLoadRect (harg1.unread x0) (Shape.Idx.first (numel1_S1x1.symm ▸ Nat.one_pos)))) (k0_hw13 : k0_chk13 i (arg1.view.readAt (Elt F) (Rect.unit (s := S1x16) ![0, 12] S1x1.size inb_S1x16_S1x1_0_12).toLoadRect (harg1.unread x0) (Shape.Idx.first (numel1_S1x1.symm ▸ Nat.one_pos)))) (k0_hw14 : k0_chk14 i (arg1.view.readAt (Elt F) (Rect.unit (s := S1x16) ![0, 13] S1x1.size inb_S1x16_S1x1_0_13).toLoadRect (harg1.unread x0) (Shape.Idx.first (numel1_S1x1.symm ▸ Nat.one_pos)))) (k0_hw15 : k0_chk15 i (arg1.view.readAt (Elt F) (Rect.unit (s := S1x16) ![0, 14] S1x1.size inb_S1x16_S1x1_0_14).toLoadRect (harg1.unread x0) (Shape.Idx.first (numel1_S1x1.symm ▸ Nat.one_pos)))) (k0_hw16 : k0_chk16 i (arg1.view.readAt (Elt F) (Rect.unit (s := S1x16) ![0, 15] S1x1.size inb_S1x16_S1x1_0_15).toLoadRect (harg1.unread x0) (Shape.Idx.first (numel1_S1x1.symm ▸ Nat.one_pos)))) (hw : ∀ g, (x0 (gcell g)).toNat < 512) (f : arg10.view.ty.Contents (Elt F)) :
    arg10.view.read (Elt F) (arg10.view.writes (Elt F) f (projFirst c i arg1 harg1 arg2 harg2 arg3 harg3 arg4 harg4 arg5 harg5 arg6 harg6 arg7 harg7 arg8 harg8 arg9 harg9 arg10 harg10 hc0 x0 x1 x2 x3 x4 k0_hw1 k0_hw2 k0_hw3 k0_hw4 k0_hw5 k0_hw6 k0_hw7 k0_hw8 k0_hw9 k0_hw10 k0_hw11 k0_hw12 k0_hw13 k0_hw14 k0_hw15 k0_hw16).2.2.2.2.1) = k0_pay9 x4 (gathered x0 x1) := by
  refine (View.read_writes_full _ _ inb_S16x1024_S16x1024_0_0 _ _).trans ?_
  dsimp only [projFirst]
  simp only [projFirst.sl.r, projFirst.sl.r_1, projFirst.sl.r_2, projFirst.sl.r_3, projFirst.sl.r_4, projFirst.sl.r_5, projFirst.sl.r_6, projFirst.sl.r_7, projFirst.sl.r_8, projFirst.sl.r_9, projFirst.sl.r_10, projFirst.sl.r_11, projFirst.sl.r_12, projFirst.sl.r_13, projFirst.sl.r_14, projFirst.sl.r_15, projFirst.sl.r_16, projFirst.sl.r_17, projFirst.sl.r_18, projFirst.sl.r_19, projFirst.sl.r_20, projFirst.sl.r_21, projFirst.sl.r_22, projFirst.sl.r_23, projFirst.sl.r_24, projFirst.sl.r_25, projFirst.sl.r_26, projFirst.sl.r_27, projFirst.sl.r_28, projFirst.sl.r_29, projFirst.sl.r_30]
  unfold gathered
  refine congrArg₂ k0_pay9 (rdFull _ _ _ _) (rows_congr ?_ ?_ ?_ ?_ ?_ ?_ ?_ ?_ ?_ ?_ ?_ ?_ ?_ ?_ ?_ ?_)
  · exact congrArg k0_pay10 (row_raw x0 x1 0 (hw 0) arg1 harg1 arg2 harg2 inb_S1x16_S1x1_0_0 _ (offs := k0_off1) (fun _ => rfl) _)
  · exact congrArg k0_pay11 (row_raw x0 x1 1 (hw 1) arg1 harg1 arg2 harg2 inb_S1x16_S1x1_0_1 _ (offs := k0_off2) (fun _ => rfl) _)
  · exact congrArg k0_pay12 (row_raw x0 x1 2 (hw 2) arg1 harg1 arg2 harg2 inb_S1x16_S1x1_0_2 _ (offs := k0_off3) (fun _ => rfl) _)
  · exact congrArg k0_pay13 (row_raw x0 x1 3 (hw 3) arg1 harg1 arg2 harg2 inb_S1x16_S1x1_0_3 _ (offs := k0_off4) (fun _ => rfl) _)
  · exact congrArg k0_pay14 (row_raw x0 x1 4 (hw 4) arg1 harg1 arg2 harg2 inb_S1x16_S1x1_0_4 _ (offs := k0_off5) (fun _ => rfl) _)
  · exact congrArg k0_pay15 (row_raw x0 x1 5 (hw 5) arg1 harg1 arg2 harg2 inb_S1x16_S1x1_0_5 _ (offs := k0_off6) (fun _ => rfl) _)
  · exact congrArg k0_pay16 (row_raw x0 x1 6 (hw 6) arg1 harg1 arg2 harg2 inb_S1x16_S1x1_0_6 _ (offs := k0_off7) (fun _ => rfl) _)
  · exact congrArg k0_pay17 (row_raw x0 x1 7 (hw 7) arg1 harg1 arg2 harg2 inb_S1x16_S1x1_0_7 _ (offs := k0_off8) (fun _ => rfl) _)
  · exact congrArg k0_pay18 (row_raw x0 x1 8 (hw 8) arg1 harg1 arg2 harg2 inb_S1x16_S1x1_0_8 _ (offs := k0_off9) (fun _ => rfl) _)
  · exact congrArg k0_pay19 (row_raw x0 x1 9 (hw 9) arg1 harg1 arg2 harg2 inb_S1x16_S1x1_0_9 _ (offs := k0_off10) (fun _ => rfl) _)
  · exact congrArg k0_pay20 (row_raw x0 x1 10 (hw 10) arg1 harg1 arg2 harg2 inb_S1x16_S1x1_0_10 _ (offs := k0_off11) (fun _ => rfl) _)
  · exact congrArg k0_pay21 (row_raw x0 x1 11 (hw 11) arg1 harg1 arg2 harg2 inb_S1x16_S1x1_0_11 _ (offs := k0_off12) (fun _ => rfl) _)
  · exact congrArg k0_pay22 (row_raw x0 x1 12 (hw 12) arg1 harg1 arg2 harg2 inb_S1x16_S1x1_0_12 _ (offs := k0_off13) (fun _ => rfl) _)
  · exact congrArg k0_pay23 (row_raw x0 x1 13 (hw 13) arg1 harg1 arg2 harg2 inb_S1x16_S1x1_0_13 _ (offs := k0_off14) (fun _ => rfl) _)
  · exact congrArg k0_pay24 (row_raw x0 x1 14 (hw 14) arg1 harg1 arg2 harg2 inb_S1x16_S1x1_0_14 _ (offs := k0_off15) (fun _ => rfl) _)
  · exact row_raw x0 x1 15 (hw 15) arg1 harg1 arg2 harg2 inb_S1x16_S1x1_0_15 _ (offs := k0_off16) (fun _ => rfl) _

/-- What the later point leaves in output 1 reads as its closed form. -/
theorem projLater_read5 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : ¬ k0_cond1 i = 1#1)
    (x0 : Vec F S1x16 .i32) (x1 : Vec F S512x1024 .f32) (x2 : Vec F S1024x1024 .f32) (x3 : Vec F S1024x1024 .f32) (x4 : Vec F S1024x1024 .f32)  (f : arg6.view.ty.Contents (Elt F)) :
    arg6.view.read (Elt F) (arg6.view.writes (Elt F) f (projLater c i arg1 harg1 arg2 harg2 arg3 harg3 arg4 harg4 arg5 harg5 arg6 harg6 arg7 harg7 arg8 harg8 arg9 harg9 arg10 harg10 hc0 x0 x1 x2 x3 x4).1) = k0_pay4 x1 x2 := by
  refine (View.read_writes_full _ _ inb_S512x1024_S512x1024_0_0 _ _).trans ?_
  dsimp only [projLater]
  simp only [rd]
  exact congrArg₂ k0_pay4 (whole_window x1 _) (whole_window _ _)

/-- What the later point leaves in output 2 reads as its closed form. -/
theorem projLater_read6 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : ¬ k0_cond1 i = 1#1)
    (x0 : Vec F S1x16 .i32) (x1 : Vec F S512x1024 .f32) (x2 : Vec F S1024x1024 .f32) (x3 : Vec F S1024x1024 .f32) (x4 : Vec F S1024x1024 .f32)  (f : arg7.view.ty.Contents (Elt F)) :
    arg7.view.read (Elt F) (arg7.view.writes (Elt F) f (projLater c i arg1 harg1 arg2 harg2 arg3 harg3 arg4 harg4 arg5 harg5 arg6 harg6 arg7 harg7 arg8 harg8 arg9 harg9 arg10 harg10 hc0 x0 x1 x2 x3 x4).2.1) = k0_pay5 x1 x3 := by
  refine (View.read_writes_full _ _ inb_S512x1024_S512x1024_0_0 _ _).trans ?_
  dsimp only [projLater]
  simp only [rd]
  exact congrArg₂ k0_pay5 (whole_window x1 _) (whole_window _ _)

/-- What the later point leaves in output 3 reads as its closed form. -/
theorem projLater_read7 (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : ¬ k0_cond1 i = 1#1)
    (x0 : Vec F S1x16 .i32) (x1 : Vec F S512x1024 .f32) (x2 : Vec F S1024x1024 .f32) (x3 : Vec F S1024x1024 .f32) (x4 : Vec F S1024x1024 .f32)  (f : arg8.view.ty.Contents (Elt F)) :
    arg8.view.read (Elt F) (arg8.view.writes (Elt F) f (projLater c i arg1 harg1 arg2 harg2 arg3 harg3 arg4 harg4 arg5 harg5 arg6 harg6 arg7 harg7 arg8 harg8 arg9 harg9 arg10 harg10 hc0 x0 x1 x2 x3 x4).2.2.1) = k0_pay6 x1 x4 := by
  refine (View.read_writes_full _ _ inb_S512x1024_S512x1024_0_0 _ _).trans ?_
  dsimp only [projLater]
  simp only [rd]
  exact congrArg₂ k0_pay6 (whole_window x1 _) (whole_window _ _)

/-- The body at the first point: from whole operand buffers and selected row numbers under 512 it runs to its end with the operands as they were and the five outputs at their closed forms. -/
theorem proj_first (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : k0_cond1 i = 1#1)
    (x0 : Vec F S1x16 .i32) (x1 : Vec F S512x1024 .f32) (x2 : Vec F S1024x1024 .f32) (x3 : Vec F S1024x1024 .f32) (x4 : Vec F S1024x1024 .f32) (hw : ∀ g, (x0 (gcell g)).toNat < 512) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x1 x2) ∗ owns (c : Thread nD τ) arg7 fullShare (k0_pay5 x1 x3) ∗ owns (c : Thread nD τ) arg8 fullShare (k0_pay6 x1 x4) ∗ owns (c : Thread nD τ) arg9 fullShare (k0_pay8 x3 (gathered x0 x1)) ∗ owns (c : Thread nD τ) arg10 fullShare (k0_pay9 x4 (gathered x0 x1))) -∗ K ⟨⟩))
      ⊢ wp frame (wpE (defs₀ (F := F)) Variants.none c none) E (cc0__qkv_body i arg1 harg1 arg2 harg2 arg3 harg3 arg4 harg4 arg5 harg5 arg6 harg6 arg7 harg7 arg8 harg8 arg9 harg9 arg10 harg10) K := by
  iintro ⟨H0, H1, H2, H3, H4, H5, H6, H7, H8, H9, Hk⟩
  iapply ((projFirst c i arg1 harg1 arg2 harg2 arg3 harg3 arg4 harg4 arg5 harg5 arg6 harg6 arg7 harg7 arg8 harg8 arg9 harg9 arg10 harg10 hc0 x0 x1 x2 x3 x4 (hwit1 x0 hw i arg1 harg1) (hwit2 x0 hw i arg1 harg1) (hwit3 x0 hw i arg1 harg1) (hwit4 x0 hw i arg1 harg1) (hwit5 x0 hw i arg1 harg1) (hwit6 x0 hw i arg1 harg1) (hwit7 x0 hw i arg1 harg1) (hwit8 x0 hw i arg1 harg1) (hwit9 x0 hw i arg1 harg1) (hwit10 x0 hw i arg1 harg1) (hwit11 x0 hw i arg1 harg1) (hwit12 x0 hw i arg1 harg1) (hwit13 x0 hw i arg1 harg1) (hwit14 x0 hw i arg1 harg1) (hwit15 x0 hw i arg1 harg1) (hwit16 x0 hw i arg1 harg1)).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H0, H1, H2, H3, H4, ⟨%e5, H5⟩, ⟨%e6, H6⟩, ⟨%e7, H7⟩, ⟨%e8, H8⟩, ⟨%e9, H9⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact projFirst_read5 c i arg1 harg1 arg2 harg2 arg3 harg3 arg4 harg4 arg5 harg5 arg6 harg6 arg7 harg7 arg8 harg8 arg9 harg9 arg10 harg10 hc0 x0 x1 x2 x3 x4 (hwit1 x0 hw i arg1 harg1) (hwit2 x0 hw i arg1 harg1) (hwit3 x0 hw i arg1 harg1) (hwit4 x0 hw i arg1 harg1) (hwit5 x0 hw i arg1 harg1) (hwit6 x0 hw i arg1 harg1) (hwit7 x0 hw i arg1 harg1) (hwit8 x0 hw i arg1 harg1) (hwit9 x0 hw i arg1 harg1) (hwit10 x0 hw i arg1 harg1) (hwit11 x0 hw i arg1 harg1) (hwit12 x0 hw i arg1 harg1) (hwit13 x0 hw i arg1 harg1) (hwit14 x0 hw i arg1 harg1) (hwit15 x0 hw i arg1 harg1) (hwit16 x0 hw i arg1 harg1) e5
  isplitl [H6]
  · unfold owns; iexists _; isplitr
    swap; · iexact H6
    ipureintro; exact projFirst_read6 c i arg1 harg1 arg2 harg2 arg3 harg3 arg4 harg4 arg5 harg5 arg6 harg6 arg7 harg7 arg8 harg8 arg9 harg9 arg10 harg10 hc0 x0 x1 x2 x3 x4 (hwit1 x0 hw i arg1 harg1) (hwit2 x0 hw i arg1 harg1) (hwit3 x0 hw i arg1 harg1) (hwit4 x0 hw i arg1 harg1) (hwit5 x0 hw i arg1 harg1) (hwit6 x0 hw i arg1 harg1) (hwit7 x0 hw i arg1 harg1) (hwit8 x0 hw i arg1 harg1) (hwit9 x0 hw i arg1 harg1) (hwit10 x0 hw i arg1 harg1) (hwit11 x0 hw i arg1 harg1) (hwit12 x0 hw i arg1 harg1) (hwit13 x0 hw i arg1 harg1) (hwit14 x0 hw i arg1 harg1) (hwit15 x0 hw i arg1 harg1) (hwit16 x0 hw i arg1 harg1) e6
  isplitl [H7]
  · unfold owns; iexists _; isplitr
    swap; · iexact H7
    ipureintro; exact projFirst_read7 c i arg1 harg1 arg2 harg2 arg3 harg3 arg4 harg4 arg5 harg5 arg6 harg6 arg7 harg7 arg8 harg8 arg9 harg9 arg10 harg10 hc0 x0 x1 x2 x3 x4 (hwit1 x0 hw i arg1 harg1) (hwit2 x0 hw i arg1 harg1) (hwit3 x0 hw i arg1 harg1) (hwit4 x0 hw i arg1 harg1) (hwit5 x0 hw i arg1 harg1) (hwit6 x0 hw i arg1 harg1) (hwit7 x0 hw i arg1 harg1) (hwit8 x0 hw i arg1 harg1) (hwit9 x0 hw i arg1 harg1) (hwit10 x0 hw i arg1 harg1) (hwit11 x0 hw i arg1 harg1) (hwit12 x0 hw i arg1 harg1) (hwit13 x0 hw i arg1 harg1) (hwit14 x0 hw i arg1 harg1) (hwit15 x0 hw i arg1 harg1) (hwit16 x0 hw i arg1 harg1) e7
  isplitl [H8]
  · unfold owns; iexists _; isplitr
    swap; · iexact H8
    ipureintro; exact projFirst_read8 c i arg1 harg1 arg2 harg2 arg3 harg3 arg4 harg4 arg5 harg5 arg6 harg6 arg7 harg7 arg8 harg8 arg9 harg9 arg10 harg10 hc0 x0 x1 x2 x3 x4 (hwit1 x0 hw i arg1 harg1) (hwit2 x0 hw i arg1 harg1) (hwit3 x0 hw i arg1 harg1) (hwit4 x0 hw i arg1 harg1) (hwit5 x0 hw i arg1 harg1) (hwit6 x0 hw i arg1 harg1) (hwit7 x0 hw i arg1 harg1) (hwit8 x0 hw i arg1 harg1) (hwit9 x0 hw i arg1 harg1) (hwit10 x0 hw i arg1 harg1) (hwit11 x0 hw i arg1 harg1) (hwit12 x0 hw i arg1 harg1) (hwit13 x0 hw i arg1 harg1) (hwit14 x0 hw i arg1 harg1) (hwit15 x0 hw i arg1 harg1) (hwit16 x0 hw i arg1 harg1) hw e8
  unfold owns; iexists _; isplitr
  swap; · iexact H9
  ipureintro; exact projFirst_read9 c i arg1 harg1 arg2 harg2 arg3 harg3 arg4 harg4 arg5 harg5 arg6 harg6 arg7 harg7 arg8 harg8 arg9 harg9 arg10 harg10 hc0 x0 x1 x2 x3 x4 (hwit1 x0 hw i arg1 harg1) (hwit2 x0 hw i arg1 harg1) (hwit3 x0 hw i arg1 harg1) (hwit4 x0 hw i arg1 harg1) (hwit5 x0 hw i arg1 harg1) (hwit6 x0 hw i arg1 harg1) (hwit7 x0 hw i arg1 harg1) (hwit8 x0 hw i arg1 harg1) (hwit9 x0 hw i arg1 harg1) (hwit10 x0 hw i arg1 harg1) (hwit11 x0 hw i arg1 harg1) (hwit12 x0 hw i arg1 harg1) (hwit13 x0 hw i arg1 harg1) (hwit14 x0 hw i arg1 harg1) (hwit15 x0 hw i arg1 harg1) (hwit16 x0 hw i arg1 harg1) hw e9

/-- The body at a later point: the three projections of the block. -/
theorem proj_later (c : Dev nD) (i : grid0.Coords) (arg1 : Memref sig .tc .smem S1x16 .i32) (harg1 : arg1.IsWhole) (arg2 : Memref sig .tc .vmem S512x1024 .f32) (harg2 : arg2.IsWhole) (arg3 : Memref sig .tc .vmem S1024x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S16x1024 .bf16) (harg9 : arg9.IsWhole) (arg10 : Memref sig .tc .vmem S16x1024 .bf16) (harg10 : arg10.IsWhole) (hc0 : ¬ k0_cond1 i = 1#1)
    (x0 : Vec F S1x16 .i32) (x1 : Vec F S512x1024 .f32) (x2 : Vec F S1024x1024 .f32) (x3 : Vec F S1024x1024 .f32) (x4 : Vec F S1024x1024 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay4 x1 x2) ∗ owns (c : Thread nD τ) arg7 fullShare (k0_pay5 x1 x3) ∗ owns (c : Thread nD τ) arg8 fullShare (k0_pay6 x1 x4)) -∗ K ⟨⟩))
      ⊢ wp frame (wpE (defs₀ (F := F)) Variants.none c none) E (cc0__qkv_body i arg1 harg1 arg2 harg2 arg3 harg3 arg4 harg4 arg5 harg5 arg6 harg6 arg7 harg7 arg8 harg8 arg9 harg9 arg10 harg10) K := by
  iintro ⟨H0, H1, H2, H3, H4, H5, H6, H7, Hk⟩
  iapply ((projLater c i arg1 harg1 arg2 harg2 arg3 harg3 arg4 harg4 arg5 harg5 arg6 harg6 arg7 harg7 arg8 harg8 arg9 harg9 arg10 harg10 hc0 x0 x1 x2 x3 x4).2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, ⟨%e5, H5⟩, ⟨%e6, H6⟩, ⟨%e7, H7⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact projLater_read5 c i arg1 harg1 arg2 harg2 arg3 harg3 arg4 harg4 arg5 harg5 arg6 harg6 arg7 harg7 arg8 harg8 arg9 harg9 arg10 harg10 hc0 x0 x1 x2 x3 x4 e5
  isplitl [H6]
  · unfold owns; iexists _; isplitr
    swap; · iexact H6
    ipureintro; exact projLater_read6 c i arg1 harg1 arg2 harg2 arg3 harg3 arg4 harg4 arg5 harg5 arg6 harg6 arg7 harg7 arg8 harg8 arg9 harg9 arg10 harg10 hc0 x0 x1 x2 x3 x4 e6
  unfold owns; iexists _; isplitr
  swap; · iexact H7
  ipureintro; exact projLater_read7 c i arg1 harg1 arg2 harg2 arg3 harg3 arg4 harg4 arg5 harg5 arg6 harg6 arg7 harg7 arg8 harg8 arg9 harg9 arg10 harg10 hc0 x0 x1 x2 x3 x4 e7

end Cert.KernelIdeal.Run

end
-- ==== Proof.KernelIdealRun.ProjData.lean ====
module

public import proofs.«01_k».proof.Proof.KernelIdealRun.ProjBody
public import Idealize.ShloMosaic.Lib.Pipeline.TableIdle

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # Region 0: what it reads, what it leaves, and its body's obligation -/

variable (V : Dev nD → Valuation τ sig (Elt F))

/-- The block of window `w`'s array that is moved at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's current staging buffer at point `t`. -/
abbrev ms0_0 (t : Fin cfg0.N) := win0_0.stage (cfg0.slots t 0)
/-- It is a whole buffer. -/
theorem hs0_0 (t : Fin cfg0.N) : (ms0_0 t).IsWhole := hstage0_0 ((cfg0.slots t 0).cast nbuf0_0)
/-- Window 1's current staging buffer at point `t`. -/
abbrev ms0_1 (t : Fin cfg0.N) := win0_1.stage (cfg0.slots t 1)
/-- It is a whole buffer. -/
theorem hs0_1 (t : Fin cfg0.N) : (ms0_1 t).IsWhole := hstage0_1 ((cfg0.slots t 1).cast nbuf0_1)
/-- Window 2's current staging buffer at point `t`. -/
abbrev ms0_2 (t : Fin cfg0.N) := win0_2.stage (cfg0.slots t 2)
/-- It is a whole buffer. -/
theorem hs0_2 (t : Fin cfg0.N) : (ms0_2 t).IsWhole := hstage0_2 ((cfg0.slots t 2).cast nbuf0_2)
/-- Window 3's current staging buffer at point `t`. -/
abbrev ms0_3 (t : Fin cfg0.N) := win0_3.stage (cfg0.slots t 3)
/-- It is a whole buffer. -/
theorem hs0_3 (t : Fin cfg0.N) : (ms0_3 t).IsWhole := hstage0_3 ((cfg0.slots t 3).cast nbuf0_3)
/-- Window 4's current staging buffer at point `t`. -/
abbrev ms0_4 (t : Fin cfg0.N) := win0_4.stage (cfg0.slots t 4)
/-- It is a whole buffer. -/
theorem hs0_4 (t : Fin cfg0.N) : (ms0_4 t).IsWhole := hstage0_4 ((cfg0.slots t 4).cast nbuf0_4)
/-- Window 5's current staging buffer at point `t`. -/
abbrev ms0_5 (t : Fin cfg0.N) := win0_5.stage (cfg0.slots t 5)
/-- It is a whole buffer. -/
theorem hs0_5 (t : Fin cfg0.N) : (ms0_5 t).IsWhole := hstage0_5 ((cfg0.slots t 5).cast nbuf0_5)
/-- Window 6's current staging buffer at point `t`. -/
abbrev ms0_6 (t : Fin cfg0.N) := win0_6.stage (cfg0.slots t 6)
/-- It is a whole buffer. -/
theorem hs0_6 (t : Fin cfg0.N) : (ms0_6 t).IsWhole := hstage0_6 ((cfg0.slots t 6).cast nbuf0_6)
/-- Window 7's current staging buffer at point `t`. -/
abbrev ms0_7 (t : Fin cfg0.N) := win0_7.stage (cfg0.slots t 7)
/-- It is a whole buffer. -/
theorem hs0_7 (t : Fin cfg0.N) : (ms0_7 t).IsWhole := hstage0_7 ((cfg0.slots t 7).cast nbuf0_7)
/-- Window 8's current staging buffer at point `t`. -/
abbrev ms0_8 (t : Fin cfg0.N) := win0_8.stage (cfg0.slots t 8)
/-- It is a whole buffer. -/
theorem hs0_8 (t : Fin cfg0.N) : (ms0_8 t).IsWhole := hstage0_8 ((cfg0.slots t 8).cast nbuf0_8)
/-- Window 9's current staging buffer at point `t`. -/
abbrev ms0_9 (t : Fin cfg0.N) := win0_9.stage (cfg0.slots t 9)
/-- It is a whole buffer. -/
theorem hs0_9 (t : Fin cfg0.N) : (ms0_9 t).IsWhole := hstage0_9 ((cfg0.slots t 9).cast nbuf0_9)

/-- What window 5's buffer holds once the body has run at point `t`. -/
def left0_5 (c : Dev nD) (t : Fin cfg0.N) : Vec F S512x1024 .bf16 := k0_pay4 (iblk0 V c 1 t) (iblk0 V c 2 t)
/-- What window 6's buffer holds once the body has run at point `t`. -/
def left0_6 (c : Dev nD) (t : Fin cfg0.N) : Vec F S512x1024 .bf16 := k0_pay5 (iblk0 V c 1 t) (iblk0 V c 3 t)
/-- What window 7's buffer holds once the body has run at point `t`. -/
def left0_7 (c : Dev nD) (t : Fin cfg0.N) : Vec F S512x1024 .bf16 := k0_pay6 (iblk0 V c 1 t) (iblk0 V c 4 t)
/-- What window 8's buffer holds once the body has run at point `t`. -/
def left0_8 (c : Dev nD) (t : Fin cfg0.N) : Vec F S16x1024 .bf16 := k0_pay8 (iblk0 V c 3 ⟨0, by decide⟩) (gathered (iblk0 V c 0 ⟨0, by decide⟩) (iblk0 V c 1 ⟨0, by decide⟩))
/-- What window 9's buffer holds once the body has run at point `t`. -/
def left0_9 (c : Dev nD) (t : Fin cfg0.N) : Vec F S16x1024 .bf16 := k0_pay9 (iblk0 V c 4 ⟨0, by decide⟩) (gathered (iblk0 V c 0 ⟨0, by decide⟩) (iblk0 V c 1 ⟨0, by decide⟩))

/-- The region's proof data: the arrays as it finds them, each staging buffer after each point, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => left0_5 V c t
    | ⟨6, _⟩ => left0_6 V c t
    | ⟨7, _⟩ => left0_7 V c t
    | ⟨8, _⟩ => left0_8 V c t
    | ⟨9, _⟩ => left0_9 V c t
  Φ _ := Pipeline.scopedRest spec0 c
  q _ := fullShare
  owed _ := 0

/-- The arrays are as the region finds them. -/
theorem dat0_A (c : Dev nD) (w : Fin cfg0.W) : (dat0 V c).A w = V c (Pipeline.arrRef spec0 w) := by dsimp only [dat0]

/-- The stated contents of window 0's buffer. -/
theorem dat0_after0 (c : Dev nD) (t : Fin cfg0.N) : (dat0 V c).after 0 t = iblk0 V c 0 t := by dsimp only [dat0]
/-- The stated contents of window 1's buffer. -/
theorem dat0_after1 (c : Dev nD) (t : Fin cfg0.N) : (dat0 V c).after 1 t = iblk0 V c 1 t := by dsimp only [dat0]
/-- The stated contents of window 2's buffer. -/
theorem dat0_after2 (c : Dev nD) (t : Fin cfg0.N) : (dat0 V c).after 2 t = iblk0 V c 2 t := by dsimp only [dat0]
/-- The stated contents of window 3's buffer. -/
theorem dat0_after3 (c : Dev nD) (t : Fin cfg0.N) : (dat0 V c).after 3 t = iblk0 V c 3 t := by dsimp only [dat0]
/-- The stated contents of window 4's buffer. -/
theorem dat0_after4 (c : Dev nD) (t : Fin cfg0.N) : (dat0 V c).after 4 t = iblk0 V c 4 t := by dsimp only [dat0]
/-- The stated contents of window 5's buffer. -/
theorem dat0_after5 (c : Dev nD) (t : Fin cfg0.N) : (dat0 V c).after 5 t = left0_5 V c t := by dsimp only [dat0]
/-- The stated contents of window 6's buffer. -/
theorem dat0_after6 (c : Dev nD) (t : Fin cfg0.N) : (dat0 V c).after 6 t = left0_6 V c t := by dsimp only [dat0]
/-- The stated contents of window 7's buffer. -/
theorem dat0_after7 (c : Dev nD) (t : Fin cfg0.N) : (dat0 V c).after 7 t = left0_7 V c t := by dsimp only [dat0]
/-- The stated contents of window 8's buffer. -/
theorem dat0_after8 (c : Dev nD) (t : Fin cfg0.N) : (dat0 V c).after 8 t = left0_8 V c t := by dsimp only [dat0]
/-- The stated contents of window 9's buffer. -/
theorem dat0_after9 (c : Dev nD) (t : Fin cfg0.N) : (dat0 V c).after 9 t = left0_9 V c t := by dsimp only [dat0]
/-- Window 0's buffer holds its block when the body starts. -/
theorem dat0_before0 (c : Dev nD) (t : Fin cfg0.N) (d) : (dat0 V c).before 0 t d = iblk0 V c 0 t :=
  ((dat0 V c).before_in_eq_fetched 0 rfl (fun _ => rfl) (fun _ _ _ => rfl)
    (fun t => by rw [dat0_after0]; unfold Dat.blockOf iblk0; rw [dat0_A]; try rfl) t d).trans
    (by unfold Dat.fetched Dat.blockOf iblk0; rw [dat0_A]; try rfl)
/-- Window 1's buffer holds its block when the body starts. -/
theorem dat0_before1 (c : Dev nD) (t : Fin cfg0.N) (d) : (dat0 V c).before 1 t d = iblk0 V c 1 t :=
  ((dat0 V c).before_in_eq_fetched 1 rfl (fun _ => rfl) (fun _ _ _ => rfl)
    (fun t => by rw [dat0_after1]; unfold Dat.blockOf iblk0; rw [dat0_A]; try rfl) t d).trans
    (by unfold Dat.fetched Dat.blockOf iblk0; rw [dat0_A]; try rfl)
/-- Window 2's buffer holds its block when the body starts. -/
theorem dat0_before2 (c : Dev nD) (t : Fin cfg0.N) (d) : (dat0 V c).before 2 t d = iblk0 V c 2 t :=
  ((dat0 V c).before_in_eq_fetched 2 rfl (fun _ => rfl) (fun _ _ _ => rfl)
    (fun t => by rw [dat0_after2]; unfold Dat.blockOf iblk0; rw [dat0_A]; try rfl) t d).trans
    (by unfold Dat.fetched Dat.blockOf iblk0; rw [dat0_A]; try rfl)
/-- Window 3's buffer holds its block when the body starts. -/
theorem dat0_before3 (c : Dev nD) (t : Fin cfg0.N) (d) : (dat0 V c).before 3 t d = iblk0 V c 3 t :=
  ((dat0 V c).before_in_eq_fetched 3 rfl (fun _ => rfl) (fun _ _ _ => rfl)
    (fun t => by rw [dat0_after3]; unfold Dat.blockOf iblk0; rw [dat0_A]; try rfl) t d).trans
    (by unfold Dat.fetched Dat.blockOf iblk0; rw [dat0_A]; try rfl)
/-- Window 4's buffer holds its block when the body starts. -/
theorem dat0_before4 (c : Dev nD) (t : Fin cfg0.N) (d) : (dat0 V c).before 4 t d = iblk0 V c 4 t :=
  ((dat0 V c).before_in_eq_fetched 4 rfl (fun _ => rfl) (fun _ _ _ => rfl)
    (fun t => by rw [dat0_after4]; unfold Dat.blockOf iblk0; rw [dat0_A]; try rfl) t d).trans
    (by unfold Dat.fetched Dat.blockOf iblk0; rw [dat0_A]; try rfl)

/-- What the body starts from at point `t`. -/
def start0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- What the body ends at. -/
def finish0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

/-- The gathering branch is taken at the first point only. -/
theorem first_iff (t : Fin grid0.N) : k0_cond1 (grid0.coords t) = 1#1 ↔ t.val = 0 := by
  have ht : t.val < 8 := Nat.lt_of_lt_of_eq t.isLt N_0
  have e0 : (grid0.coords t 0).val = t.val / 1 % 8 := Pipeline.Grid.coords_val t 0 (by decide) rfl
  have h : k0_cond1 (grid0.coords t) = 1#1 ↔ t.val % 8 = 0 := by
    simp only [k0_cond1, e0]; word_cmp
  rw [h]; omega

/-- Past the first point window 8's buffer is still at what the first point left. -/
theorem dat0_kept8 (c : Dev nD) (t : Fin cfg0.N) (ht : t.val ≠ 0) (d) : (dat0 V c).before 8 t d = left0_8 V c t := by
  have hf : ∀ t : Fin cfg0.N, t.val ≠ 0 → cfg0.fresh 8 t.val = false := by decide +kernel
  rw [Dat.before_out_traj (dat0 V c) 8 rfl (fun _ _ => rfl) (fun t _ _ _ => by rw [dat0_after8, dat0_after8]; rfl) t.val t rfl d, hf t ht, dat0_after8]
  rfl

/-- What the body leaves in window 8's buffer is what the obligation asks, whether or not the point touches it. -/
theorem leaves8 (c : Dev nD) (t : Fin cfg0.N) : owns (c : Thread nD τ) (ms0_8 t) fullShare ((dat0 V c).after 8 t) ⊢ (dat0 V c).leavesExact 8 t := by
  by_cases ht : t.val = 0
  · have hi : cfg0.idle 8 (cfg0.grid.coords t) = false := by
      have := (first_iff t).mpr ht
      show (!(k0_cond1 (grid0.coords t) == 1#1)) = false
      rw [this]; rfl
    unfold Dat.leavesExact; rw [hi]
  · have hi : cfg0.idle 8 (cfg0.grid.coords t) = true := by
      have := (first_iff t).not.mpr ht
      show (!(k0_cond1 (grid0.coords t) == 1#1)) = true
      simp [this]
    unfold Dat.leavesExact; rw [hi]
    cases hfl : (cfg0.win 8).flush t
    · dsimp only
      iintro H; iexists ((dat0 V c).after 8 t)
      rw [dat0_kept8 V c t ht, dat0_after8]
      iexact H
    · exact .rfl

/-- Past the first point window 9's buffer is still at what the first point left. -/
theorem dat0_kept9 (c : Dev nD) (t : Fin cfg0.N) (ht : t.val ≠ 0) (d) : (dat0 V c).before 9 t d = left0_9 V c t := by
  have hf : ∀ t : Fin cfg0.N, t.val ≠ 0 → cfg0.fresh 9 t.val = false := by decide +kernel
  rw [Dat.before_out_traj (dat0 V c) 9 rfl (fun _ _ => rfl) (fun t _ _ _ => by rw [dat0_after9, dat0_after9]; rfl) t.val t rfl d, hf t ht, dat0_after9]
  rfl

/-- What the body leaves in window 9's buffer is what the obligation asks, whether or not the point touches it. -/
theorem leaves9 (c : Dev nD) (t : Fin cfg0.N) : owns (c : Thread nD τ) (ms0_9 t) fullShare ((dat0 V c).after 9 t) ⊢ (dat0 V c).leavesExact 9 t := by
  by_cases ht : t.val = 0
  · have hi : cfg0.idle 9 (cfg0.grid.coords t) = false := by
      have := (first_iff t).mpr ht
      show (!(k0_cond1 (grid0.coords t) == 1#1)) = false
      rw [this]; rfl
    unfold Dat.leavesExact; rw [hi]
  · have hi : cfg0.idle 9 (cfg0.grid.coords t) = true := by
      have := (first_iff t).not.mpr ht
      show (!(k0_cond1 (grid0.coords t) == 1#1)) = true
      simp [this]
    unfold Dat.leavesExact; rw [hi]
    cases hfl : (cfg0.win 9).flush t
    · dsimp only
      iintro H; iexists ((dat0 V c).after 9 t)
      rw [dat0_kept9 V c t ht, dat0_after9]
      iexact H
    · exact .rfl

/-- The body takes the one to the other at the first point. -/
theorem body0_first (hg : ∀ (c : Dev nD) (g : Fin 16), ((iblk0 V c 0 ⟨0, by decide⟩ : Vec F S1x16 .i32) (gcell g)).toNat < 512) (c : Dev nD) (t : Fin cfg0.N) (ht : t.val = 0) :
    start0 V c t ⊢ wp frame (wpE (defs₀ (F := F)) Variants.none c none) Set.univ (bodyAt0 t) (fun _ => finish0 V c t) := by
  obtain rfl : t = ⟨0, by decide⟩ := Fin.ext ht
  generalize ht0 : (⟨0, by decide⟩ : Fin cfg0.N) = t at *
  unfold start0 finish0 bodyAt0
  simp only [dat0_before0, dat0_before1, dat0_before2, dat0_before3, dat0_before4]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5, dat0_after6, dat0_after7, dat0_after8, dat0_after9]
  rw [show left0_8 V c t = k0_pay8 (iblk0 V c 3 t) (gathered (iblk0 V c 0 t) (iblk0 V c 1 t)) by subst ht0; rfl,
    show left0_9 V c t = k0_pay9 (iblk0 V c 4 t) (gathered (iblk0 V c 0 t) (iblk0 V c 1 t)) by subst ht0; rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (proj_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((first_iff t).mpr ht) (iblk0 V c 0 t) (iblk0 V c 1 t) (iblk0 V c 2 t) (iblk0 V c 3 t) (iblk0 V c 4 t) (hg c) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body takes the one to the other at every later point. -/
theorem body0_later (c : Dev nD) (t : Fin cfg0.N) (ht : t.val ≠ 0) :
    start0 V c t ⊢ wp frame (wpE (defs₀ (F := F)) Variants.none c none) Set.univ (bodyAt0 t) (fun _ => finish0 V c t) := by
  unfold start0 finish0 bodyAt0
  simp only [dat0_before0, dat0_before1, dat0_before2, dat0_before3, dat0_before4]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5, dat0_after6, dat0_after7, dat0_after8, dat0_after9]
  simp only [dat0_kept8 V c t ht, dat0_kept9 V c t ht]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (proj_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((first_iff t).not.mpr ht) (iblk0 V c 0 t) (iblk0 V c 1 t) (iblk0 V c 2 t) (iblk0 V c 3 t) (iblk0 V c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The row the body is called through. -/
theorem proj_row (t : Fin cfg0.N) : defs₀ (F := F) .tc cfg0.body (cfg0.bodyArgs t (cfg0.slots t)) = bodyAt0 t := by
  unfold defs₀; rw [Defs.onTc_tc]

/-- What the obligation asks at the end of a point: the two gathered windows' buffers by cases. -/
def asked0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ (dat0 V c).leavesExact 8 t ∗ (dat0 V c).leavesExact 9 t)

/-- What the body ends at is what is asked. -/
theorem settle0 (c : Dev nD) (t : Fin cfg0.N) : finish0 V c t ⊢ asked0 V c t := by
  unfold finish0 asked0
  iintro ⟨HΦ, Ho, H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iapply (leaves8 V c t); iexact H8
  · iapply (leaves9 V c t); iexact H9

/-- The body meets the region's obligation, the row numbers being in range. -/
theorem obligation0 (hg : ∀ (c : Dev nD) (g : Fin 16), ((iblk0 V c 0 ⟨0, by decide⟩ : Vec F S1x16 .i32) (gcell g)).toNat < 512) (c : Dev nD) : BodyObligation (dat0 V c) (defs₀ (F := F)) Variants.none () Set.univ := fun t => by
  have h : start0 V c t ⊢ wp frame (wpE (defs₀ (F := F)) Variants.none c none) Set.univ (bodyAt0 t) (fun _ => finish0 V c t) := by
    by_cases ht : t.val = 0
    · exact body0_first V hg c t ht
    · exact body0_later V c t ht
  have h2 : start0 V c t ⊢ wp frame (wpE (defs₀ (F := F)) Variants.none c none) Set.univ (bodyAt0 t) (fun _ => asked0 V c t) :=
    triple_restated h rfl (BI.Entails.refl _) fun _ => settle0 V c t
  rw [bigSep_W0, bigSep_W0, proj_row]
  exact triple_restated h2 rfl .rfl fun _ => .rfl

end Cert.KernelIdeal.Run

end
-- ==== Proof.KernelIdealRun.Segments.lean ====
module

public import proofs.«01_k».proof.Proof.KernelIdealRun.AttnData
public import proofs.«01_k».proof.Proof.KernelIdealRun.ProjData
public import proofs.«01_k».proof.Proof.Gen.KernelIdeal.Regions
public import Idealize.ShloMosaic.Lib.Pipeline.RegionsLoop
public import Idealize.ShloMosaic.Lib.Pipeline.FrameTail

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # The two regions in sequence -/

variable (m : (ℓ : Loc nD τ sig) → Buf (Elt F) ℓ)

/-- What the first region leaves. -/
def midOuts : Outs (F := F) := fun _ r c => Pipeline.afterRegion (dat0 (V1 m) c) (V1 m c) r
/-- What both regions leave, the second one entered from what the first left. -/
def allOuts : Outs (F := F) := fun J r c => match J with
  | 2 => midOuts m 2 r c
  | _ => Pipeline.afterRegion (dat1 (V2 m (midOuts m)) c) (V2 m (midOuts m) c) r

/-- The two regions' proof data. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m (midOuts m)) c

/-- The second region is entered from what the first one left. -/
theorem V2_all (c : Dev nD) : V2 m (allOuts m) c = V2 m (midOuts m) c := rfl

/-- The first region's array 5, as it leaves it. -/
theorem V2_arr0 (outs : Outs (F := F)) (c : Dev nD) : V2 m outs c main_call0_v0_0 = outs 2 main_call0_v0_0 c := by
  unfold V2; rw [Function.update_of_ne (StableHlo.devRef_ne_of_ne (by decide) : (Proc.devRef .tc main_call0_v0_0 : DevRef τ sig) ≠ Proc.devRef .tc main_call0_v0_4), Function.update_of_ne (StableHlo.devRef_ne_of_ne (by decide) : (Proc.devRef .tc main_call0_v0_0 : DevRef τ sig) ≠ Proc.devRef .tc main_call0_v0_3), Function.update_of_ne (StableHlo.devRef_ne_of_ne (by decide) : (Proc.devRef .tc main_call0_v0_0 : DevRef τ sig) ≠ Proc.devRef .tc main_call0_v0_2), Function.update_of_ne (StableHlo.devRef_ne_of_ne (by decide) : (Proc.devRef .tc main_call0_v0_0 : DevRef τ sig) ≠ Proc.devRef .tc main_call0_v0_1), Function.update_self]
theorem mid_arr0 (c : Dev nD) : V2 m (midOuts m) c main_call0_v0_0 = (dat0 (V1 m) c).arrAt 5 cfg0.N :=
  (V2_arr0 m _ c).trans (Pipeline.afterRegion_arr (dat0 (V1 m) c) (V1 m c) launch0.win.arr_inj 5)

/-- The first region's array 6, as it leaves it. -/
theorem V2_arr1 (outs : Outs (F := F)) (c : Dev nD) : V2 m outs c main_call0_v0_1 = outs 2 main_call0_v0_1 c := by
  unfold V2; rw [Function.update_of_ne (StableHlo.devRef_ne_of_ne (by decide) : (Proc.devRef .tc main_call0_v0_1 : DevRef τ sig) ≠ Proc.devRef .tc main_call0_v0_4), Function.update_of_ne (StableHlo.devRef_ne_of_ne (by decide) : (Proc.devRef .tc main_call0_v0_1 : DevRef τ sig) ≠ Proc.devRef .tc main_call0_v0_3), Function.update_of_ne (StableHlo.devRef_ne_of_ne (by decide) : (Proc.devRef .tc main_call0_v0_1 : DevRef τ sig) ≠ Proc.devRef .tc main_call0_v0_2), Function.update_self]
theorem mid_arr1 (c : Dev nD) : V2 m (midOuts m) c main_call0_v0_1 = (dat0 (V1 m) c).arrAt 6 cfg0.N :=
  (V2_arr1 m _ c).trans (Pipeline.afterRegion_arr (dat0 (V1 m) c) (V1 m c) launch0.win.arr_inj 6)

/-- The first region's array 7, as it leaves it. -/
theorem V2_arr2 (outs : Outs (F := F)) (c : Dev nD) : V2 m outs c main_call0_v0_2 = outs 2 main_call0_v0_2 c := by
  unfold V2; rw [Function.update_of_ne (StableHlo.devRef_ne_of_ne (by decide) : (Proc.devRef .tc main_call0_v0_2 : DevRef τ sig) ≠ Proc.devRef .tc main_call0_v0_4), Function.update_of_ne (StableHlo.devRef_ne_of_ne (by decide) : (Proc.devRef .tc main_call0_v0_2 : DevRef τ sig) ≠ Proc.devRef .tc main_call0_v0_3), Function.update_self]
theorem mid_arr2 (c : Dev nD) : V2 m (midOuts m) c main_call0_v0_2 = (dat0 (V1 m) c).arrAt 7 cfg0.N :=
  (V2_arr2 m _ c).trans (Pipeline.afterRegion_arr (dat0 (V1 m) c) (V1 m c) launch0.win.arr_inj 7)

/-- The first region's array 8, as it leaves it. -/
theorem V2_arr3 (outs : Outs (F := F)) (c : Dev nD) : V2 m outs c main_call0_v0_3 = outs 2 main_call0_v0_3 c := by
  unfold V2; rw [Function.update_of_ne (StableHlo.devRef_ne_of_ne (by decide) : (Proc.devRef .tc main_call0_v0_3 : DevRef τ sig) ≠ Proc.devRef .tc main_call0_v0_4), Function.update_self]
theorem mid_arr3 (c : Dev nD) : V2 m (midOuts m) c main_call0_v0_3 = (dat0 (V1 m) c).arrAt 8 cfg0.N :=
  (V2_arr3 m _ c).trans (Pipeline.afterRegion_arr (dat0 (V1 m) c) (V1 m c) launch0.win.arr_inj 8)

/-- The first region's array 9, as it leaves it. -/
theorem V2_arr4 (outs : Outs (F := F)) (c : Dev nD) : V2 m outs c main_call0_v0_4 = outs 2 main_call0_v0_4 c := by
  unfold V2; rw [Function.update_self]
theorem mid_arr4 (c : Dev nD) : V2 m (midOuts m) c main_call0_v0_4 = (dat0 (V1 m) c).arrAt 9 cfg0.N :=
  (V2_arr4 m _ c).trans (Pipeline.afterRegion_arr (dat0 (V1 m) c) (V1 m c) launch0.win.arr_inj 9)

/-- The second region's result, as it leaves it. -/
theorem all_res (c : Dev nD) : V3 m (allOuts m) c main_v1 = (dat1 (V2 m (midOuts m)) c).arrAt 6 cfg1.N := by
  unfold V3; rw [Function.update_self]
  exact Pipeline.afterRegion_arr (dat1 (V2 m (midOuts m)) c) (V2 m (midOuts m) c) launch1.win.arr_inj 6

/-- What a core carries beside its buffers: it owes nothing. -/
abbrev idleOwe (c : Dev nD) : sProp 𝕄 := iprop(∃ W, owes (c : Thread nD τ) (0 : CellTallies nD τ sig Unit) W)

set_option backward.isDefEq.respectTransparency.types false in
/-- Region 0: entered by taking its arrays out of the unscoped buffers, left by putting them back. -/
def region0 (hg : ∀ (c : Dev nD) (g : Fin 16), ((iblk0 (V1 m) c 0 ⟨0, by decide⟩ : Vec F S1x16 .i32) (gcell g)).toNat < 512) : RegionSeg (pcfgs (F := F)) adm (pdats m) () defs₀ Variants.none (fun _ => ∅) (fun _ _ => 0) 0 where
  win := launch0.win.to₀
  block_pos := launch0.block_pos
  stage_whole := launch0.stage_whole
  K := PEmpty
  osem k := k.elim
  ho := Pipeline.OwnSemFacts.none _
  hbody c := (obligation0 (V1 m) hg c).loose
  hwaits := Pipeline.hwaits_of_owed_zero _ _ _ _ (fun _ => ∅) (fun _ _ => 0) 0 fun _ _ => rfl
  pre c := iprop(StableHlo.held (c : Thread nD τ) (Pipeline.ucRefs τ sig) (V1 m c) ∗ idleOwe c)
  post c := iprop(StableHlo.held (c : Thread nD τ) (Pipeline.ucRefs τ sig) (V2 m (midOuts m) c) ∗ idleOwe c)
  X _ := BI.emp
  Y _ := BI.emp
  Z c := iprop(Pipeline.unscopedRest (Ix := Unit) (Name := ℕ) (U := UR sig nD τ) (Lvl := ℕ) spec0 c (fun b => V1 m c (Proc.devRef .tc b)))
  hentry c := by
    rw [Pipeline.ownSems0_none, ← Pipeline.unscopedBufs_held (Ix := Unit) (Name := ℕ) (U := UR sig nD τ) (Lvl := ℕ) c (V1 m c)]
    have hsplit := Pipeline.arrays_of_unscopedBufs (p := 0) (pcfgs (F := F)) adm (pdats m) launch0.win launch0.arr_whole c
      ((pdats m 0 c).share_full fun _ => rfl) (fun b => V1 m c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    rw [← Pipeline.unscopedBufs_held (Ix := Unit) (Name := ℕ) (U := UR sig nD τ) (Lvl := ℕ) c (V2 m (midOuts m) c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (fun b => V1 m c (Proc.devRef .tc b)) (fun b => V2 m (midOuts m) c (Proc.devRef .tc b)) ((pdats m 0 c).arrAt · cfg0.N)
      (fun w => by
        fin_cases w
        · exact ((dat0 (V1 m) c).arrAt_in 0 rfl _).trans (V2_of m (midOuts m) c main_arg1 (by decide)).symm
        · exact ((dat0 (V1 m) c).arrAt_in 1 rfl _).trans (V2_of m (midOuts m) c main_v0 (by decide)).symm
        · exact ((dat0 (V1 m) c).arrAt_in 2 rfl _).trans (V2_of m (midOuts m) c main_arg2 (by decide)).symm
        · exact ((dat0 (V1 m) c).arrAt_in 3 rfl _).trans (V2_of m (midOuts m) c main_arg3 (by decide)).symm
        · exact ((dat0 (V1 m) c).arrAt_in 4 rfl _).trans (V2_of m (midOuts m) c main_arg4 (by decide)).symm
        · exact (mid_arr0 m c).symm
        · exact (mid_arr1 m c).symm
        · exact (mid_arr2 m c).symm
        · exact (mid_arr3 m c).symm
        · exact (mid_arr4 m c).symm)
      (fun b hb => V2_of m (midOuts m) c b (fun h => by
        simp only [List.mem_cons, List.not_mem_nil, _root_.or_false] at h
        rcases h with h | h | h | h | h
        · exact hb (Finset.mem_image.mpr ⟨5, Finset.mem_univ _, Eq.symm h⟩)
        · exact hb (Finset.mem_image.mpr ⟨6, Finset.mem_univ _, Eq.symm h⟩)
        · exact hb (Finset.mem_image.mpr ⟨7, Finset.mem_univ _, Eq.symm h⟩)
        · exact hb (Finset.mem_image.mpr ⟨8, Finset.mem_univ _, Eq.symm h⟩)
        · exact hb (Finset.mem_image.mpr ⟨9, Finset.mem_univ _, Eq.symm h⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Region 1: entered by taking its arrays out of the unscoped buffers, left by putting them back. -/
def region1 : RegionSeg (pcfgs (F := F)) adm (pdats m) () defs₀ Variants.none (fun _ => ∅) (fun _ _ => 0) 1 where
  win := launch1.win.to₀
  block_pos := launch1.block_pos
  stage_whole := launch1.stage_whole
  K := PEmpty
  osem k := k.elim
  ho := Pipeline.OwnSemFacts.none _
  hbody c := (obligation1 (V2 m (midOuts m)) c).loose
  hwaits := Pipeline.hwaits_of_owed_zero _ _ _ _ (fun _ => ∅) (fun _ _ => 0) 1 fun _ _ => rfl
  pre c := iprop(StableHlo.held (c : Thread nD τ) (Pipeline.ucRefs τ sig) (V2 m (midOuts m) c) ∗ idleOwe c)
  post c := iprop(StableHlo.held (c : Thread nD τ) (Pipeline.ucRefs τ sig) (V3 m (allOuts m) c) ∗ idleOwe c)
  X _ := BI.emp
  Y _ := BI.emp
  Z c := iprop(Pipeline.unscopedRest (Ix := Unit) (Name := ℕ) (U := UR sig nD τ) (Lvl := ℕ) spec1 c (fun b => V2 m (midOuts m) c (Proc.devRef .tc b)))
  hentry c := by
    rw [Pipeline.ownSems0_none, ← Pipeline.unscopedBufs_held (Ix := Unit) (Name := ℕ) (U := UR sig nD τ) (Lvl := ℕ) c (V2 m (midOuts m) c)]
    have hsplit := Pipeline.arrays_of_unscopedBufs (p := 1) (pcfgs (F := F)) adm (pdats m) launch1.win launch1.arr_whole c
      ((pdats m 1 c).share_full fun _ => rfl) (fun b => V2 m (midOuts m) c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none, show (pdats m 1 c).Φ (Fin.last _) = Pipeline.scopedRest spec1 c from rfl]
    iintro Hr
    isplitr; · iempintro
    isplitr; · iempintro
    iexact Hr
  hexit c := by
    rw [← Pipeline.unscopedBufs_held (Ix := Unit) (Name := ℕ) (U := UR sig nD τ) (Lvl := ℕ) c (V3 m (allOuts m) c)]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (fun b => V2 m (midOuts m) c (Proc.devRef .tc b)) (fun b => V3 m (allOuts m) c (Proc.devRef .tc b)) ((pdats m 1 c).arrAt · cfg1.N)
      (fun w => by
        fin_cases w
        · exact ((dat1 (V2 m (midOuts m)) c).arrAt_in 0 rfl _).trans (V3_of m (allOuts m) c main_call0_v0_0 (by decide)).symm
        · exact ((dat1 (V2 m (midOuts m)) c).arrAt_in 1 rfl _).trans (V3_of m (allOuts m) c main_call0_v0_1 (by decide)).symm
        · exact ((dat1 (V2 m (midOuts m)) c).arrAt_in 2 rfl _).trans (V3_of m (allOuts m) c main_call0_v0_2 (by decide)).symm
        · exact ((dat1 (V2 m (midOuts m)) c).arrAt_in 3 rfl _).trans (V3_of m (allOuts m) c main_call0_v0_3 (by decide)).symm
        · exact ((dat1 (V2 m (midOuts m)) c).arrAt_in 4 rfl _).trans (V3_of m (allOuts m) c main_call0_v0_4 (by decide)).symm
        · exact ((dat1 (V2 m (midOuts m)) c).arrAt_in 5 rfl _).trans (V3_of m (allOuts m) c main_arg5 (by decide)).symm
        · exact (all_res m c).symm)
      (fun b hb => V3_of m (allOuts m) c b (fun h => by
        have h := List.mem_singleton.mp h
        · exact hb (Finset.mem_image.mpr ⟨6, Finset.mem_univ _, Eq.symm h⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Cert.KernelIdeal.Run

end
-- ==== Proof.KernelIdealRun.Whole.lean ====
module

public import proofs.«01_k».proof.Proof.KernelIdealRun.Segments

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # The whole run -/

variable (m : (ℓ : Loc nD τ sig) → Buf (Elt F) ℓ)

/-- What the launch hands the pipelines. -/
def u₀ : UR sig nD τ := initOf (Pipeline.cells cfgs cellOf_inj) (Pipeline.launchToks cfgs cellOf_inj)

set_option backward.isDefEq.respectTransparency.types false in
/-- From any memory whose gathered row numbers lie in the first block, every execution ends with the arguments as
    launched, the result at what the two regions and the host's reshapes leave, and every semaphore at zero. -/
theorem whole_run (hg : ∀ (c : Dev nD) (g : Fin 16), ((iblk0 (V1 m) c 0 ⟨0, by decide⟩ : Vec F S1x16 .i32) (gcell g)).toNat < 512) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v2) = V4 m (allOuts m) c main_v2)
      ∧ r.2.sem = fun _ => 0) := by
  refine Pipeline.θ_run_regions_kit_dev_sems (pcfgs (F := F)) adm (pdats m) () cellOf_inj emb₁ defs₀ Variants.none (fun _ => ∅) (fun _ _ => 0) m ρ main
    (segs m (allOuts m) Variants.none (fun _ => ∅) (fun _ _ => 0) (fun _ c => idleOwe c) () (pdats m) (region0 m hg) (region1 m))
    (fun c Q => by
      rewrite [main_chain c, Pipeline.Seg.run_eq_chain,
        show (segs m (allOuts m) Variants.none (fun _ => ∅) (fun _ _ => 0) (fun _ c => idleOwe c) () (pdats m) (region0 m hg) (region1 m) c).map Pipeline.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide) 0 (fun _ _ => rfl) (fun _ => BI.emp) u₀
    (by
      unfold u₀
      iintro Hu
      imodintro
      isplitl [Hu]
      · iapply (show (ownU (initOf (Pipeline.cells cfgs cellOf_inj) (Pipeline.launchToks cfgs cellOf_inj) : UR sig nD τ) : sProp 𝕄) ⊢ BI.own ((emb₁ : Emb (UR sig nD τ) 𝕄) (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ idleOwe c))
    (Tₙ := fun c => StableHlo.held (c : Thread nD τ) (Pipeline.ucRefs τ sig) (V4 m (allOuts m) c))
    (hch := fun c => ⟨.rfl, .rfl, .rfl, .rfl, .rfl⟩)
    (hinit := ?_) (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5) ∧ s.mem ((c.tc : Thread nD τ).loc main_v2) = V4 m (allOuts m) c main_v2)
    (hfin := fun c s' => ?_) (hQ := fun _ h hz => ⟨h, funext fun g => hz g (.inr (regions_no_unscoped g.2))⟩)
  · refine Pipeline.initEach (fun _ => ∅) (fun _ _ => 0) fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (allOuts m) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V4_main_arg0 m (allOuts m) c),
        (h (Proc.devRef .tc main_arg1) (Finset.mem_filter.mpr ⟨StableHlo.devRef_mem_tcRefs main_arg1, by decide⟩)).trans (V4_main_arg1 m (allOuts m) c),
        (h (Proc.devRef .tc main_arg2) (Finset.mem_filter.mpr ⟨StableHlo.devRef_mem_tcRefs main_arg2, by decide⟩)).trans (V4_main_arg2 m (allOuts m) c),
        (h (Proc.devRef .tc main_arg3) (Finset.mem_filter.mpr ⟨StableHlo.devRef_mem_tcRefs main_arg3, by decide⟩)).trans (V4_main_arg3 m (allOuts m) c),
        (h (Proc.devRef .tc main_arg4) (Finset.mem_filter.mpr ⟨StableHlo.devRef_mem_tcRefs main_arg4, by decide⟩)).trans (V4_main_arg4 m (allOuts m) c),
        (h (Proc.devRef .tc main_arg5) (Finset.mem_filter.mpr ⟨StableHlo.devRef_mem_tcRefs main_arg5, by decide⟩)).trans (V4_main_arg5 m (allOuts m) c),
        h (Proc.devRef .tc main_v2) (Finset.mem_filter.mpr ⟨StableHlo.devRef_mem_tcRefs main_v2, by decide⟩)⟩
    · iexact HSI

end Cert.KernelIdeal.Run

end
-- ==== Proof.KernelIdealRun.Indices.lean ====
module

public import proofs.«01_k».proof.Proof.KernelIdealRun.Whole

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F] [Named F]

local notation "𝕄" => MT nD τ sig Unit (Elt F) ℕ (UR sig nD τ) ℕ

/-! # The frame: the run from the first precondition -/

/-- Every global index the first grid point reads from its block is a word of the index argument. -/
theorem index_words (m : (ℓ : Loc nD τ sig) → Buf (Elt F) ℓ)
    (h : ∀ (c : Dev nD) (y : S1x16.Idx), ((m ((c.tc : Thread nD τ).loc main_arg1) : IVec S1x16 32) y).toNat < 512)
    (c : Dev nD) (g : Fin 16) :
    ((iblk0 (V1 m) c 0 ⟨0, by decide⟩ : Vec F S1x16 .i32) (gcell g)).toNat < 512 := by
  have e : V1 m c main_arg1 = m ((c.tc : Thread nD τ).loc main_arg1) := V1_of m c main_arg1 (by decide)
  unfold iblk0
  rw [View.read_apply, cast_eq]
  have e2 : V1 m c (Pipeline.arrRef spec0 0) = m ((c.tc : Thread nD τ).loc main_arg1) := e
  rw [e2]
  exact h c _

end Cert.KernelIdeal.Run

end
-- ==== Proof.Frames.lean ====
module

public import proofs.«01_k».proof.Defs
public import proofs.«01_k».proof.Proof.Inputs
public import proofs.«01_k».proof.Proof.KernelRun.Indices
public import proofs.«01_k».proof.Proof.KernelIdealRun.Indices
public import proofs.«01_k».proof.Proof.Gen.ReferenceIdeal.Run
public import Idealize.ShloMosaic.Adequacy
public import Idealize.ShloMosaic.Init

@[expose] public section

set_option maxRecDepth 16384

noncomputable section

namespace Cert.Frames

open Idealize.ShloMosaic Idealize.SL.Sem

/-! # The frame claims and the named constant -/

/-- The kernel, from any memory that meets the first precondition: every run ends, leaves the six
arguments as they were, and every counter at zero. -/
theorem frame_p : Cert.quiescent_Kernel := by
  intro m ρ h
  exact (θ_run Cert.Kernel.defs _ _).mono (fun r q => ⟨fun c =>
    ⟨(q.1 c).1, (q.1 c).2.1, (q.1 c).2.2.1, (q.1 c).2.2.2.1, (q.1 c).2.2.2.2.1, (q.1 c).2.2.2.2.2.1⟩, q.2⟩)
    (Cert.Kernel.Run.whole_run (F := Bits) m (Cert.Kernel.Run.index_words m
      (fun c y => Cert.Inputs.ok_words _ _ _ _ _ _ (h c) y)) ρ)

/-- The idealized kernel, from any memory that meets the first precondition: every run ends, leaves the
six arguments as they were, and every counter at zero. -/
theorem frame_pi : Cert.quiescent_KernelIdeal := by
  intro m ρ h
  exact (θ_run Cert.KernelIdeal.defs _ _).mono (fun r q => ⟨fun c =>
    ⟨(q.1 c).1, (q.1 c).2.1, (q.1 c).2.2.1, (q.1 c).2.2.2.1, (q.1 c).2.2.2.2.1, (q.1 c).2.2.2.2.2.1⟩, q.2⟩)
    (Cert.KernelIdeal.Run.whole_run (F := Ideal) m (Cert.KernelIdeal.Run.index_words m
      (fun c y => Cert.Inputs.ok_words _ _ _ _ _ _ (h c) y)) ρ)

/-- The same of the idealized kernel from any memory that meets the second precondition. -/
theorem frame_pi_finite : Cert.quiescent_KernelIdeal_pre_inputs_finite := by
  intro m ρ h
  exact (θ_run Cert.KernelIdeal.defs _ _).mono (fun r q => ⟨fun c =>
    ⟨(q.1 c).1, (q.1 c).2.1, (q.1 c).2.2.1, (q.1 c).2.2.2.1, (q.1 c).2.2.2.2.1, (q.1 c).2.2.2.2.2.1⟩, q.2⟩)
    (Cert.KernelIdeal.Run.whole_run (F := Ideal) m (Cert.KernelIdeal.Run.index_words m
      (fun c y => (Cert.Inputs.finite_inputs _ _ _ _ _ _ (h c)).1 y)) ρ)

/-- The reference, from any memory: every run ends, leaves the six arguments as they were, and it has no
counter. -/
theorem frame_ri : Cert.quiescent_ReferenceIdeal := by
  intro m ρ _
  exact (θ_run Cert.ReferenceIdeal.defs _ _).mono
    (fun r q => ⟨fun c => (q c).2, sem_eq_zero_of_no_sems (by decide) r.2⟩)
    (Cert.ReferenceIdeal.Value.run (F := Ideal) m ρ)

/-- The same of the reference from any memory that meets the second precondition. -/
theorem frame_ri_finite : Cert.quiescent_ReferenceIdeal_pre_inputs_finite := by
  intro m ρ _
  exact (θ_run Cert.ReferenceIdeal.defs _ _).mono
    (fun r q => ⟨fun c => (q c).2, sem_eq_zero_of_no_sems (by decide) r.2⟩)
    (Cert.ReferenceIdeal.Value.run (F := Ideal) m ρ)

/-- The one named constant is what its name says, and the word the kernel holds is its rounding. -/
theorem preserves : Cert.preserves_Kernel_KernelIdeal :=
  IdealRules.named_const.statement Cert.KernelIdeal.κ "qk_scale" .f32 0x3E38AA3B#32
    (((Real.log 2)⁻¹ * (Real.sqrt 64)⁻¹ : ℝ) : EReal) rfl

end Cert.Frames
-- ==== Proof.Softmax.lean ====
module

public import Idealize.ShloMosaic.PureOps.Ideal.Laws
public import Idealize.ShloMosaic.Lib.FinSumWindow
public import Mathlib.Analysis.SpecialFunctions.Pow.Real
public import proofs.«01_k».proof.Proof.Inputs

@[expose] public section

set_option maxRecDepth 16384

noncomputable section

namespace Cert.Attn

open Idealize.ShloMosaic
open scoped BigOperators
open Cert.Inputs (IsReal)

/-! # The arithmetic of one attended row

One query attends to 16 chosen keys with the real scores `a`, and to the keys `t` of the sequence that are
`near` it with the real scores `b`. The values `vg` and `vt` may be any extended reals. -/

/-- The embedding of the reals carries a finite sum to the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor distributes over a finite sum of extended reals. -/
theorem sum_mul_real {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h, ← ih,
      EReal.right_distrib_of_nonneg_of_ne_top (EReal.coe_nonneg.2 hc) (EReal.coe_ne_top c)]

/-- Division by a nonzero real is multiplication by its reciprocal. -/
theorem div_real (x : EReal) (d : ℝ) (hd : d ≠ 0) : Ideal.div x (d : EReal) = x * ((d⁻¹ : ℝ) : EReal) := by
  unfold Ideal.div
  rw [if_neg (by simpa using hd), EReal.coe_inv]

/-- A real product of reals. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals is a real. -/
theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

variable (a : Fin 16 → ℝ) (b : Fin 4096 → ℝ) (near : Fin 4096 → Prop) [DecidablePred near]
variable (vg : Fin 16 → EReal) (vt : Fin 4096 → EReal)

/-- The unscaled weight of a key of the sequence: the exponential of its score when it is near, else zero. -/
def mass (t : Fin 4096) : ℝ := if near t then Real.exp (b t) else 0

/-- The sum of all unscaled weights. -/
def total : ℝ := ∑ g, Real.exp (a g) + ∑ t, mass b near t

/-- The attended row's entry: the weighted mean of the values. -/
def attend : EReal :=
  ∑ g, ((Real.exp (a g) * (total a b near)⁻¹ : ℝ) : EReal) * vg g
    + ∑ t, ((mass b near t * (total a b near)⁻¹ : ℝ) : EReal) * vt t

theorem mass_nonneg (t : Fin 4096) : 0 ≤ mass b near t := by
  unfold mass; split
  · exact (Real.exp_pos _).le
  · exact le_rfl

theorem total_pos : 0 < total a b near :=
  add_pos_of_pos_of_nonneg (Finset.sum_pos (fun g _ => Real.exp_pos _) ⟨0, Finset.mem_univ _⟩)
    (Finset.sum_nonneg fun t _ => mass_nonneg b near t)

/-- The quotient of the two weighted sums, the sequence's part taken over a window of 768 keys that holds every
near key, is the attended entry. -/
theorem window_attend (lo : ℕ) (hlo : lo + 768 ≤ 4096) (hnear : ∀ t : Fin 4096, near t → lo ≤ t.val ∧ t.val < lo + 768)
    (pl vl : Fin 768 → EReal) (pg : Fin 16 → EReal)
    (hpl : ∀ w : Fin 768, pl w = (mass b near ⟨lo + w.val, by omega⟩ : EReal))
    (hvl : ∀ w : Fin 768, vl w = vt ⟨lo + w.val, by omega⟩)
    (hpg : ∀ g, pg g = (Real.exp (a g) : EReal)) :
    Ideal.div (∑ w, pl w * vl w + ∑ g, pg g * vg g) (∑ w, pl w + ∑ g, pg g) = attend a b near vg vt := by
  have off : ∀ P : Fin 4096, ¬(lo ≤ P.val ∧ P.val < lo + 768) → mass b near P = 0 := fun P hP => by
    unfold mass; rw [if_neg fun h => hP (hnear P h)]
  have e1 : ∑ w, pl w * vl w = ∑ t, (mass b near t : EReal) * vt t := by
    rw [FinSumWindow.sum_window lo hlo (fun t => (mass b near t : EReal) * vt t) fun P hP => by
      show (mass b near P : EReal) * vt P = 0
      rw [off P hP, EReal.coe_zero, zero_mul]]
    exact Finset.sum_congr rfl fun w _ => by rw [hpl, hvl]
  have e2 : ∑ w, pl w = ∑ t, (mass b near t : EReal) := by
    rw [FinSumWindow.sum_window lo hlo (fun t => (mass b near t : EReal)) fun P hP => by
      show (mass b near P : EReal) = 0
      rw [off P hP, EReal.coe_zero]]
    exact Finset.sum_congr rfl fun w _ => hpl w
  have e3 : ∑ w, pl w + ∑ g, pg g = (total a b near : EReal) := by
    rw [e2, Finset.sum_congr rfl fun g _ => hpg g, ← coe_sum, ← coe_sum, ← EReal.coe_add, add_comm]
    rfl
  have hp := total_pos a b near
  rw [e3, div_real _ _ hp.ne', e1, EReal.right_distrib_of_nonneg_of_ne_top (EReal.coe_nonneg.2 (inv_nonneg.2 hp.le))
    (EReal.coe_ne_top _), sum_mul_real _ _ _ (inv_nonneg.2 hp.le), sum_mul_real _ _ _ (inv_nonneg.2 hp.le), add_comm]
  unfold attend
  congr 1
  · refine Finset.sum_congr rfl fun g _ => ?_
    rw [hpg, EReal.coe_mul, mul_right_comm]
  · refine Finset.sum_congr rfl fun t _ => ?_
    rw [EReal.coe_mul, mul_right_comm]

/-- The softmax of all the scores, those not near set to negative infinity and any real subtracted from every score
before the exponential, weighs the values to the attended entry. -/
theorem softmax_attend (r : ℝ) (pg : Fin 16 → EReal) (pt : Fin 4096 → EReal) (L : EReal)
    (hpg : ∀ g, pg g = Ideal.exp ((a g : EReal) - (r : EReal)))
    (hpt : ∀ t, pt t = Ideal.exp ((if near t then (b t : EReal) else ⊥) - (r : EReal)))
    (hL : L = ∑ g, pg g + ∑ t, pt t) :
    ∑ g, Ideal.div (pg g) L * vg g + ∑ t, Ideal.div (pt t) L * vt t = attend a b near vg vt := by
  have hg : ∀ g, pg g = ((Real.exp (a g) * Real.exp (-r) : ℝ) : EReal) := fun g => by
    rw [hpg, ← EReal.coe_sub, Ideal.exp_coe, sub_eq_add_neg, Real.exp_add]
  have ht : ∀ t, pt t = ((mass b near t * Real.exp (-r) : ℝ) : EReal) := fun t => by
    rw [hpt]; unfold mass
    split
    · rw [← EReal.coe_sub, Ideal.exp_coe, sub_eq_add_neg, Real.exp_add]
    · rw [EReal.bot_sub, Ideal.exp_bot, zero_mul, EReal.coe_zero]
  have hp := total_pos a b near
  have hr := Real.exp_pos (-r)
  have e : L = ((total a b near * Real.exp (-r) : ℝ) : EReal) := by
    rw [hL, Finset.sum_congr rfl fun g _ => hg g, Finset.sum_congr rfl fun t _ => ht t, ← coe_sum, ← coe_sum,
      ← EReal.coe_add, ← Finset.sum_mul, ← Finset.sum_mul, ← add_mul]
    rfl
  have q : ∀ x : ℝ, Ideal.div ((x * Real.exp (-r) : ℝ) : EReal) L = ((x * (total a b near)⁻¹ : ℝ) : EReal) := fun x => by
    rw [e, div_real _ _ (mul_pos hp hr).ne', ← EReal.coe_mul]
    congr 1
    field_simp
  unfold attend
  congr 1
  · exact Finset.sum_congr rfl fun g _ => by rw [hg, q]
  · exact Finset.sum_congr rfl fun t _ => by rw [ht, q]

/-- Two to the power of a real divided by the logarithm of two is the exponential of the real. -/
theorem exp2_scaled (x : ℝ) : Ideal.exp2 ((x * (Real.log 2)⁻¹ : ℝ) : EReal) = (Real.exp x : EReal) := by
  have h2 : Real.log 2 ≠ 0 := (Real.log_pos (by norm_num)).ne'
  rw [Ideal.exp2_coe]
  congr 1
  show (2 : ℝ) ^ (x * (Real.log 2)⁻¹) = Real.exp x
  rw [Real.rpow_def_of_pos (by norm_num : (0 : ℝ) < 2)]
  congr 1
  field_simp

/-- The largest of finitely many scores, none of them positive infinity and one of them real, is real. -/
theorem fold_max_real {ι : Type*} (s : Finset ι) (f : ι → EReal) (hf : ∀ i, f i ≠ ⊤) (i₀ : ι) (h₀ : i₀ ∈ s)
    (hr : f i₀ ≠ ⊥) : IsReal (s.fold max ⊥ f) := by
  have e : s.fold max ⊥ f = s.sup f := rfl
  rw [e]
  have h1 : s.sup f ≠ ⊤ := ((Finset.sup_lt_iff (bot_lt_top (α := EReal))).2 fun i _ => lt_top_iff_ne_top.2 (hf i)).ne
  have h2 : s.sup f ≠ ⊥ := fun h => hr (le_bot_iff.1 (h ▸ Finset.le_sup h₀))
  exact ⟨(s.sup f).toReal, (EReal.coe_toReal h1 h2).symm⟩

/-- The same for any operation that takes the greater. -/
theorem fold_greater_real {ι : Type*} (op : EReal → EReal → EReal) [Std.Commutative op] [Std.Associative op]
    (hop : op = max) (s : Finset ι) (f : ι → EReal) (hf : ∀ i, f i ≠ ⊤) (i₀ : ι) (h₀ : i₀ ∈ s) (hr : f i₀ ≠ ⊥) :
    IsReal (s.fold op ⊥ f) := by
  subst hop
  exact fold_max_real s f hf i₀ h₀ hr

end Cert.Attn
-- ==== Proof.Value.Head.lean ====
module

public import proofs.«01_k».proof.Proof.KernelIdealRun.AttnPieces
public import Idealize.ShloMosaic.Lib.Pointwise
public import Idealize.ShloMosaic.Lib.ValueIdx
public import proofs.«01_k».proof.Proof.Softmax

@[expose] public section

set_option maxRecDepth 16384

noncomputable section

namespace Cert.KernelIdeal.Value

open Idealize.ShloMosaic
open Cert.KernelIdeal Cert.KernelIdeal.Gen Cert.KernelIdeal.Run
open scoped BigOperators

/-! # One head of the attention body, read at an entry -/

set_option maxHeartbeats 4000000 in
/-- One head's entry: the quotient of the two weighted sums. -/
theorem head_apply (b : FVec Ideal S256x768 .f32) (q : Vec Ideal S256x64 .bf16) (k v : Vec Ideal S768x64 .bf16)
    (sk sv : Vec Ideal S16x64 .bf16) (r : Fin 256) (d : Fin 64) :
    headOf (F := Ideal) b q k v sk sv (ix2 r d)
      = Ideal.div
          (∑ w : Fin 768, Ideal.exp2 (∑ e : Fin 64, q (ix2 r e) * k (ix2 w e) + b (ix2 r w)) * v (ix2 w d)
            + ∑ g : Fin 16, Ideal.exp2 (∑ e : Fin 64, q (ix2 r e) * sk (ix2 g e)) * sv (ix2 g d))
          (∑ w : Fin 768, Ideal.exp2 (∑ e : Fin 64, q (ix2 r e) * k (ix2 w e) + b (ix2 r w))
            + ∑ g : Fin 16, Ideal.exp2 (∑ e : Fin 64, q (ix2 r e) * sk (ix2 g e))) := by
  unfold headOf k1_pay14
  pointwise!

end Cert.KernelIdeal.Value
-- ==== Proof.Value.Bias.lean ====
module

public import proofs.«01_k».proof.Proof.Value.Head
public import Idealize.ShloMosaic.Lib.Affine

@[expose] public section

set_option maxRecDepth 16384

noncomputable section

namespace Cert.KernelIdeal.Value

open Idealize.ShloMosaic
open Cert.KernelIdeal Cert.KernelIdeal.Gen Cert.KernelIdeal.Run
open scoped BigOperators

/-! # The band and the window of keys -/

/-- Two positions of the sequence are near when they are at most 256 apart. -/
def Near (s t : Fin 4096) : Prop := s.val ≤ t.val + 256 ∧ t.val ≤ s.val + 256

instance (s : Fin 4096) : DecidablePred (Near s) := fun t => by unfold Near; infer_instance

/-- The first key of the window the attention body loads at grid point `n`. -/
def first (n : ℕ) : ℕ := min 3328 (n * 256 - 256)

/-- The word that holds the window's first key. -/
theorem start_word : ∀ n : Fin 16,
    Scalar.minsi (3328#32) (Scalar.maxsi (0#32) (Scalar.subi (Scalar.muli (BitVec.ofNat 32 n.val) 256#32) 256#32))
      = BitVec.ofNat 32 (first n.val) := by decide

/-- The absolute value of the difference of two position words is at most 256 exactly when the positions are
near. -/
theorem near_word {A B : ℕ} (hA : A < 4096) (hB : B < 4096) :
    IntOp.cmpi .sle (IntOp.absi (BitVec.ofNat 32 A - BitVec.ofNat 32 B)) 256#32 = 1#1 ↔ Near ⟨A, hA⟩ ⟨B, hB⟩ := by
  rw [IntOp.cmpi_sle]
  unfold IntOp.absi Near
  have e : (BitVec.ofNat 32 A - BitVec.ofNat 32 B).toInt = (A : Int) - B := by
    rw [BitVec.toInt_sub, BitVec.toInt_ofNat', BitVec.toInt_ofNat']
    simp only [Int.bmod_def]
    omega
  rw [BitVec.msb_eq_toInt, e, show (256#32 : BitVec 32).toInt = 256 from rfl]
  split
  · rw [BitVec.toInt_neg, e, Int.bmod_def]
    simp only [decide_eq_true_eq] at *
    split <;> omega
  · rw [e]
    simp only [decide_eq_true_eq] at *
    omega

/-- The bias at an entry: zero when the key is near the query, negative infinity otherwise. -/
theorem bias_apply (i : grid1.Coords) (r : Fin 256) (w : Fin 768) (hs : (i 0).val * 256 + r.val < 4096)
    (ht : first (i 0).val + w.val < 4096) :
    k1_pay7 (F := Ideal) i (ix2 r w)
      = if Near ⟨(i 0).val * 256 + r.val, hs⟩ ⟨first (i 0).val + w.val, ht⟩ then (0 : EReal) else ⊥ := by
  unfold k1_pay7
  pointwise
  have hb : (Ideal.ofBits FTy.f32 4286578688#32 : EReal) = ⊥ := by simp [Ideal.ofBits, Ideal.ieee]
  have hn : (i 0).val < 16 := (i 0).isLt
  have es := start_word ⟨(i 0).val, hn⟩
  simp only at es
  rw [es, hb]
  simp only [IntOp.subi, IntOp.addi, Scalar.muli, IntOp.muli]
  rw [show BitVec.ofNat 32 (i 0).val * 256#32 + BitVec.ofNat 32 r.val = BitVec.ofNat 32 ((i 0).val * 256 + r.val) by
      rw [BitVec.ofNat_add, BitVec.ofNat_mul],
    show BitVec.ofNat 32 (first (i 0).val) + BitVec.ofNat 32 w.val = BitVec.ofNat 32 (first (i 0).val + w.val) by
      rw [BitVec.ofNat_add]]
  have hw := near_word hs ht
  by_cases hc : Near ⟨(i 0).val * 256 + r.val, hs⟩ ⟨first (i 0).val + w.val, ht⟩
  · rw [if_pos hc, hw.2 hc]; rfl
  · rw [if_neg hc, ValueIdx.eq_zero_of_ne_one fun h => hc (hw.1 h)]; rfl

end Cert.KernelIdeal.Value
-- ==== Proof.Value.Ctx.lean ====
module

public import proofs.«01_k».proof.Proof.Value.Bias
public import Idealize.ShloMosaic.Lib.Pipeline.Value

@[expose] public section

set_option maxRecDepth 16384

noncomputable section

namespace Cert.KernelIdeal.Value

open Idealize.ShloMosaic
open Cert.KernelIdeal Cert.KernelIdeal.Gen Cert.KernelIdeal.Run
open scoped BigOperators

/-! # The sixteen heads side by side -/

/-- The head of a column of the joined heads. -/
def headIx (c : Fin 1024) : Fin 16 := ⟨c.val / 64, by omega⟩

/-- The place of a column within its head. -/
def laneIx (c : Fin 1024) : Fin 64 := ⟨c.val % 64, by omega⟩

set_option maxHeartbeats 4000000 in
/-- The joined heads at a column hold the column's head at the column's place. -/
theorem joined_apply (v : Fin 16 → FVec Ideal S256x64 .bf16) (r : Fin 256) (c : Fin 1024) :
    k1_pay5 (F := Ideal) (v 0) (v 1) (v 2) (v 3) (v 4) (v 5) (v 6) (v 7) (v 8) (v 9) (v 10) (v 11) (v 12) (v 13) (v 14) (v 15) (ix2 r c) = v (headIx c) (ix2 r (laneIx c)) := by
  unfold k1_pay5
  have e := concatenate_ofFn_apply (t := S256x1024) (s₁ := S256x64) 1 v Cert.KernelIdeal.Gen.concatenates_S256x64_S256x64_S256x64_S256x64_S256x64_S256x64_S256x64_S256x64_S256x64_S256x64_S256x64_S256x64_S256x64_S256x64_S256x64_S256x64_S256x1024_d1 rfl 64 rfl (ix2 r c) (headIx c) rfl
    (ix2 r (laneIx c)) rfl (fun b hb => by
      match b, hb with
      | ⟨0, _⟩, _ => rfl
      | ⟨1, _⟩, hb => exact absurd rfl hb)
  exact e

/-- The window's first key as the body computes it. -/
theorem start_nat : ∀ n : Fin 16,
    (Scalar.minsi (3328#32) (Scalar.maxsi (0#32) (Scalar.subi (Scalar.muli (BitVec.ofNat 32 n.val) 256#32) 256#32))).toNat
      = first n.val := by decide

/-- The offsets of head 0's key window. -/
theorem off1 (i : grid1.Coords) : k1_off1 i = ![first (i 0).val, 0] := by
  have h := start_nat ⟨(i 0).val, (i 0).isLt⟩
  unfold k1_off1
  funext a
  match a with
  | ⟨0, _⟩ => exact h
  | ⟨1, _⟩ => rfl

/-- The offsets of head 1's key window. -/
theorem off2 (i : grid1.Coords) : k1_off2 i = ![first (i 0).val, 64] := by
  have h := start_nat ⟨(i 0).val, (i 0).isLt⟩
  unfold k1_off2
  funext a
  match a with
  | ⟨0, _⟩ => exact h
  | ⟨1, _⟩ => rfl

/-- The offsets of head 2's key window. -/
theorem off3 (i : grid1.Coords) : k1_off3 i = ![first (i 0).val, 128] := by
  have h := start_nat ⟨(i 0).val, (i 0).isLt⟩
  unfold k1_off3
  funext a
  match a with
  | ⟨0, _⟩ => exact h
  | ⟨1, _⟩ => rfl

/-- The offsets of head 3's key window. -/
theorem off4 (i : grid1.Coords) : k1_off4 i = ![first (i 0).val, 192] := by
  have h := start_nat ⟨(i 0).val, (i 0).isLt⟩
  unfold k1_off4
  funext a
  match a with
  | ⟨0, _⟩ => exact h
  | ⟨1, _⟩ => rfl

/-- The offsets of head 4's key window. -/
theorem off5 (i : grid1.Coords) : k1_off5 i = ![first (i 0).val, 256] := by
  have h := start_nat ⟨(i 0).val, (i 0).isLt⟩
  unfold k1_off5
  funext a
  match a with
  | ⟨0, _⟩ => exact h
  | ⟨1, _⟩ => rfl

/-- The offsets of head 5's key window. -/
theorem off6 (i : grid1.Coords) : k1_off6 i = ![first (i 0).val, 320] := by
  have h := start_nat ⟨(i 0).val, (i 0).isLt⟩
  unfold k1_off6
  funext a
  match a with
  | ⟨0, _⟩ => exact h
  | ⟨1, _⟩ => rfl

/-- The offsets of head 6's key window. -/
theorem off7 (i : grid1.Coords) : k1_off7 i = ![first (i 0).val, 384] := by
  have h := start_nat ⟨(i 0).val, (i 0).isLt⟩
  unfold k1_off7
  funext a
  match a with
  | ⟨0, _⟩ => exact h
  | ⟨1, _⟩ => rfl

/-- The offsets of head 7's key window. -/
theorem off8 (i : grid1.Coords) : k1_off8 i = ![first (i 0).val, 448] := by
  have h := start_nat ⟨(i 0).val, (i 0).isLt⟩
  unfold k1_off8
  funext a
  match a with
  | ⟨0, _⟩ => exact h
  | ⟨1, _⟩ => rfl

/-- The offsets of head 8's key window. -/
theorem off9 (i : grid1.Coords) : k1_off9 i = ![first (i 0).val, 512] := by
  have h := start_nat ⟨(i 0).val, (i 0).isLt⟩
  unfold k1_off9
  funext a
  match a with
  | ⟨0, _⟩ => exact h
  | ⟨1, _⟩ => rfl

/-- The offsets of head 9's key window. -/
theorem off10 (i : grid1.Coords) : k1_off10 i = ![first (i 0).val, 576] := by
  have h := start_nat ⟨(i 0).val, (i 0).isLt⟩
  unfold k1_off10
  funext a
  match a with
  | ⟨0, _⟩ => exact h
  | ⟨1, _⟩ => rfl

/-- The offsets of head 10's key window. -/
theorem off11 (i : grid1.Coords) : k1_off11 i = ![first (i 0).val, 640] := by
  have h := start_nat ⟨(i 0).val, (i 0).isLt⟩
  unfold k1_off11
  funext a
  match a with
  | ⟨0, _⟩ => exact h
  | ⟨1, _⟩ => rfl

/-- The offsets of head 11's key window. -/
theorem off12 (i : grid1.Coords) : k1_off12 i = ![first (i 0).val, 704] := by
  have h := start_nat ⟨(i 0).val, (i 0).isLt⟩
  unfold k1_off12
  funext a
  match a with
  | ⟨0, _⟩ => exact h
  | ⟨1, _⟩ => rfl

/-- The offsets of head 12's key window. -/
theorem off13 (i : grid1.Coords) : k1_off13 i = ![first (i 0).val, 768] := by
  have h := start_nat ⟨(i 0).val, (i 0).isLt⟩
  unfold k1_off13
  funext a
  match a with
  | ⟨0, _⟩ => exact h
  | ⟨1, _⟩ => rfl

/-- The offsets of head 13's key window. -/
theorem off14 (i : grid1.Coords) : k1_off14 i = ![first (i 0).val, 832] := by
  have h := start_nat ⟨(i 0).val, (i 0).isLt⟩
  unfold k1_off14
  funext a
  match a with
  | ⟨0, _⟩ => exact h
  | ⟨1, _⟩ => rfl

/-- The offsets of head 14's key window. -/
theorem off15 (i : grid1.Coords) : k1_off15 i = ![first (i 0).val, 896] := by
  have h := start_nat ⟨(i 0).val, (i 0).isLt⟩
  unfold k1_off15
  funext a
  match a with
  | ⟨0, _⟩ => exact h
  | ⟨1, _⟩ => rfl

/-- The offsets of head 15's key window. -/
theorem off16 (i : grid1.Coords) : k1_off16 i = ![first (i 0).val, 960] := by
  have h := start_nat ⟨(i 0).val, (i 0).isLt⟩
  unfold k1_off16
  funext a
  match a with
  | ⟨0, _⟩ => exact h
  | ⟨1, _⟩ => rfl

end Cert.KernelIdeal.Value
-- ==== Proof.Value.Joined.lean ====
module

public import proofs.«01_k».proof.Proof.Value.Ctx

@[expose] public section

set_option maxRecDepth 16384

noncomputable section

namespace Cert.KernelIdeal.Value

open Idealize.ShloMosaic
open Cert.KernelIdeal Cert.KernelIdeal.Gen Cert.KernelIdeal.Run
open scoped BigOperators

/-! # The attention body's joined heads and its output block, read at an entry -/

/-- The column of head `h` at place `e`. -/
def col (h : Fin 16) (e : Fin 64) : Fin 1024 := ⟨64 * h.val + e.val, by omega⟩

/-- Key `w` of the window at grid point `n`. -/
def keyIx (n : Fin 16) (w : Fin 768) : Fin 4096 := ⟨first n.val + w.val, by unfold first; omega⟩

/-- Query `r` of the block at grid point `n`. -/
def queryIx (n : Fin 16) (r : Fin 256) : Fin 4096 := ⟨n.val * 256 + r.val, by omega⟩

/-- The base-two exponential of a windowed score with its bias. -/
def localWeight (n : Fin 16) (x0 : Vec Ideal S256x1024 .bf16) (x1 : Vec Ideal S4096x1024 .bf16) (h : Fin 16) (r : Fin 256)
    (w : Fin 768) : EReal :=
  Ideal.exp2 (∑ e : Fin 64, x0 (ix2 r (col h e)) * x1 (ix2 (keyIx n w) (col h e))
    + if Near (queryIx n r) (keyIx n w) then (0 : EReal) else ⊥)

/-- The base-two exponential of a score against a gathered key. -/
def globalWeight (x0 : Vec Ideal S256x1024 .bf16) (x3 : Vec Ideal S16x1024 .bf16) (h : Fin 16) (r : Fin 256)
    (g : Fin 16) : EReal :=
  Ideal.exp2 (∑ e : Fin 64, x0 (ix2 r (col h e)) * x3 (ix2 g (col h e)))

/-- One head's block, from the whole operand blocks. -/
def headVal (i : grid1.Coords) (x0 : Vec Ideal S256x1024 .bf16) (x1 x2 : Vec Ideal S4096x1024 .bf16)
    (x3 x4 : Vec Ideal S16x1024 .bf16) (h : Fin 16) : FVec Ideal S256x64 .bf16 := fun j =>
  Ideal.div
    (∑ w : Fin 768, localWeight (i 0) x0 x1 h (j 0) w * x2 (ix2 (keyIx (i 0) w) (col h (j 1)))
      + ∑ g : Fin 16, globalWeight x0 x3 h (j 0) g * x4 (ix2 g (col h (j 1))))
    (∑ w : Fin 768, localWeight (i 0) x0 x1 h (j 0) w + ∑ g : Fin 16, globalWeight x0 x3 h (j 0) g)

/-- A window of a matrix at an entry. -/
theorem window_apply {a b p q : ℕ} (x : (⟨2, ![a, b]⟩ : Shape).Idx → EReal) (o0 o1 : ℕ)
    (inb : ∀ k : Fin 2, (![o0, o1] : Fin 2 → ℕ) k + (⟨2, ![p, q]⟩ : Shape).size k ≤ (⟨2, ![a, b]⟩ : Shape).size k)
    (r : Fin p) (c : Fin q) (h0 : o0 + r.val < a) (h1 : o1 + c.val < b) :
    (VecWindow.window x ![o0, o1] (⟨2, ![p, q]⟩ : Shape).size inb : (⟨2, ![p, q]⟩ : Shape).Idx → EReal) (ix2 r c)
      = x (ix2 ⟨o0 + r.val, h0⟩ ⟨o1 + c.val, h1⟩) := by
  unfold VecWindow.window
  congr 1
  funext k
  match k with
  | ⟨0, _⟩ => exact Fin.ext (by simp [Rect.emb, Rect.unit, ix2])
  | ⟨1, _⟩ => exact Fin.ext (by simp [Rect.emb, Rect.unit, ix2])

set_option maxHeartbeats 1000000 in
/-- A head computed from its windows is the head's block. -/
theorem head_window (i : grid1.Coords) (x0 : Vec Ideal S256x1024 .bf16) (x1 x2 : Vec Ideal S4096x1024 .bf16)
    (x3 x4 : Vec Ideal S16x1024 .bf16) (h : Fin 16) (o0 ok og : Fin 2 → ℕ)
    (e0 : o0 = ![0, 64 * h.val]) (ek : ok = ![first (i 0).val, 64 * h.val]) (eg : og = ![0, 64 * h.val])
    (i0 : ∀ k : Fin S256x1024.rank, o0 k + S256x64.size k ≤ S256x1024.size k) (i1 i2 : ∀ k : Fin S4096x1024.rank, ok k + S768x64.size k ≤ S4096x1024.size k)
    (i3 i4 : ∀ k : Fin S16x1024.rank, og k + S16x64.size k ≤ S16x1024.size k) :
    headOf (F := Ideal) (k1_pay7 i) (VecWindow.window x0 o0 S256x64.size i0) (VecWindow.window x1 ok S768x64.size i1)
        (VecWindow.window x2 ok S768x64.size i2) (VecWindow.window x3 og S16x64.size i3) (VecWindow.window x4 og S16x64.size i4)
      = headVal i x0 x1 x2 x3 x4 h := by
  subst e0 ek eg
  funext j
  obtain ⟨r, d, rfl⟩ : ∃ (r : Fin 256) (d : Fin 64), j = ix2 r d := ⟨j 0, j 1, by idx_vars j⟩
  have hn : (i 0).val < 16 := (i 0).isLt
  have hh := h.isLt
  rw [head_apply]
  have q0 : ∀ e : Fin 64, (VecWindow.window x0 ![0, 64 * h.val] S256x64.size i0 : Vec Ideal S256x64 .bf16) (ix2 r e)
      = x0 (ix2 r (col h e)) := fun e =>
    (window_apply x0 0 (64 * h.val) i0 r e (by omega) (by omega)).trans (by congr 2; exact Fin.ext (Nat.zero_add _))
  have q1 : ∀ (x : Vec Ideal S4096x1024 .bf16) (ii : ∀ k : Fin S4096x1024.rank, ![first (i 0).val, 64 * h.val] k + S768x64.size k ≤ S4096x1024.size k) (w : Fin 768) (e : Fin 64),
      (VecWindow.window x ![first (i 0).val, 64 * h.val] S768x64.size ii : Vec Ideal S768x64 .bf16) (ix2 w e)
      = x (ix2 (keyIx (i 0) w) (col h e)) := fun x ii w e =>
    window_apply x (first (i 0).val) (64 * h.val) ii w e (by unfold first; omega) (by omega)
  have q3 : ∀ (x : Vec Ideal S16x1024 .bf16) (ii : ∀ k : Fin S16x1024.rank, ![0, 64 * h.val] k + S16x64.size k ≤ S16x1024.size k) (g : Fin 16) (e : Fin 64),
      (VecWindow.window x ![0, 64 * h.val] S16x64.size ii : Vec Ideal S16x64 .bf16) (ix2 g e)
      = x (ix2 g (col h e)) := fun x ii g e =>
    (window_apply x 0 (64 * h.val) ii g e (by omega) (by omega)).trans (by congr 2; exact Fin.ext (Nat.zero_add _))
  have qb : ∀ w : Fin 768, k1_pay7 (F := Ideal) i (ix2 r w)
      = if Near (queryIx (i 0) r) (keyIx (i 0) w) then (0 : EReal) else ⊥ := fun w =>
    bias_apply i r w (by omega) (by unfold first; omega)
  simp only [q0, q1, q3, qb]
  rfl

/-- The last head, joined before it is rounded. -/
theorem head_window_last (i : grid1.Coords) (x0 : Vec Ideal S256x1024 .bf16) (x1 x2 : Vec Ideal S4096x1024 .bf16)
    (x3 x4 : Vec Ideal S16x1024 .bf16) (h : Fin 16) (o0 ok og : Fin 2 → ℕ)
    (e0 : o0 = ![0, 64 * h.val]) (ek : ok = ![first (i 0).val, 64 * h.val]) (eg : og = ![0, 64 * h.val])
    (i0 : ∀ k : Fin S256x1024.rank, o0 k + S256x64.size k ≤ S256x1024.size k) (i1 i2 : ∀ k : Fin S4096x1024.rank, ok k + S768x64.size k ≤ S4096x1024.size k)
    (i3 i4 : ∀ k : Fin S16x1024.rank, og k + S16x64.size k ≤ S16x1024.size k) :
    headPre (F := Ideal) (k1_pay7 i) (VecWindow.window x0 o0 S256x64.size i0) (VecWindow.window x1 ok S768x64.size i1)
        (VecWindow.window x2 ok S768x64.size i2) (VecWindow.window x3 og S16x64.size i3) (VecWindow.window x4 og S16x64.size i4)
      = headVal i x0 x1 x2 x3 x4 h :=
  Eq.trans rfl (head_window i x0 x1 x2 x3 x4 h o0 ok og e0 ek eg i0 i1 i2 i3 i4)

/-- Equal heads join to equal blocks. -/
theorem join_congr {a0 a1 a2 a3 a4 a5 a6 a7 a8 a9 a10 a11 a12 a13 a14 a15 b0 b1 b2 b3 b4 b5 b6 b7 b8 b9 b10 b11 b12 b13 b14 b15 : FVec Ideal S256x64 .bf16}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) :
    k1_pay5 (F := Ideal) a0 a1 a2 a3 a4 a5 a6 a7 a8 a9 a10 a11 a12 a13 a14 a15 = k1_pay5 (F := Ideal) b0 b1 b2 b3 b4 b5 b6 b7 b8 b9 b10 b11 b12 b13 b14 b15 := by
  subst h0 h1 h2 h3 h4 h5 h6 h7 h8 h9 h10 h11 h12 h13 h14 h15
  rfl

/-- The joined heads of the block are the heads' blocks side by side. -/
theorem ctx_joined (i : grid1.Coords) (x0 : Vec Ideal S256x1024 .bf16) (x1 x2 : Vec Ideal S4096x1024 .bf16)
    (x3 x4 : Vec Ideal S16x1024 .bf16) :
    ctxOf (F := Ideal) i x0 x1 x2 x3 x4 = k1_pay5 (F := Ideal) (headVal i x0 x1 x2 x3 x4 0) (headVal i x0 x1 x2 x3 x4 1) (headVal i x0 x1 x2 x3 x4 2) (headVal i x0 x1 x2 x3 x4 3) (headVal i x0 x1 x2 x3 x4 4) (headVal i x0 x1 x2 x3 x4 5) (headVal i x0 x1 x2 x3 x4 6) (headVal i x0 x1 x2 x3 x4 7) (headVal i x0 x1 x2 x3 x4 8) (headVal i x0 x1 x2 x3 x4 9) (headVal i x0 x1 x2 x3 x4 10) (headVal i x0 x1 x2 x3 x4 11) (headVal i x0 x1 x2 x3 x4 12) (headVal i x0 x1 x2 x3 x4 13) (headVal i x0 x1 x2 x3 x4 14) (headVal i x0 x1 x2 x3 x4 15) := by
  unfold ctxOf
  exact join_congr
    (head_window i x0 x1 x2 x3 x4 0 ![0, 0] (k1_off1 i) ![0, 0] rfl (off1 i) rfl _ _ _ _ _)
    (head_window i x0 x1 x2 x3 x4 1 ![0, 64] (k1_off2 i) ![0, 64] rfl (off2 i) rfl _ _ _ _ _)
    (head_window i x0 x1 x2 x3 x4 2 ![0, 128] (k1_off3 i) ![0, 128] rfl (off3 i) rfl _ _ _ _ _)
    (head_window i x0 x1 x2 x3 x4 3 ![0, 192] (k1_off4 i) ![0, 192] rfl (off4 i) rfl _ _ _ _ _)
    (head_window i x0 x1 x2 x3 x4 4 ![0, 256] (k1_off5 i) ![0, 256] rfl (off5 i) rfl _ _ _ _ _)
    (head_window i x0 x1 x2 x3 x4 5 ![0, 320] (k1_off6 i) ![0, 320] rfl (off6 i) rfl _ _ _ _ _)
    (head_window i x0 x1 x2 x3 x4 6 ![0, 384] (k1_off7 i) ![0, 384] rfl (off7 i) rfl _ _ _ _ _)
    (head_window i x0 x1 x2 x3 x4 7 ![0, 448] (k1_off8 i) ![0, 448] rfl (off8 i) rfl _ _ _ _ _)
    (head_window i x0 x1 x2 x3 x4 8 ![0, 512] (k1_off9 i) ![0, 512] rfl (off9 i) rfl _ _ _ _ _)
    (head_window i x0 x1 x2 x3 x4 9 ![0, 576] (k1_off10 i) ![0, 576] rfl (off10 i) rfl _ _ _ _ _)
    (head_window i x0 x1 x2 x3 x4 10 ![0, 640] (k1_off11 i) ![0, 640] rfl (off11 i) rfl _ _ _ _ _)
    (head_window i x0 x1 x2 x3 x4 11 ![0, 704] (k1_off12 i) ![0, 704] rfl (off12 i) rfl _ _ _ _ _)
    (head_window i x0 x1 x2 x3 x4 12 ![0, 768] (k1_off13 i) ![0, 768] rfl (off13 i) rfl _ _ _ _ _)
    (head_window i x0 x1 x2 x3 x4 13 ![0, 832] (k1_off14 i) ![0, 832] rfl (off14 i) rfl _ _ _ _ _)
    (head_window i x0 x1 x2 x3 x4 14 ![0, 896] (k1_off15 i) ![0, 896] rfl (off15 i) rfl _ _ _ _ _)
    (head_window_last i x0 x1 x2 x3 x4 15 ![0, 960] (k1_off16 i) ![0, 960] rfl (off16 i) rfl _ _ _ _ _)

/-- The joined heads at an entry. -/
theorem ctx_apply (i : grid1.Coords) (x0 : Vec Ideal S256x1024 .bf16) (x1 x2 : Vec Ideal S4096x1024 .bf16)
    (x3 x4 : Vec Ideal S16x1024 .bf16) (r : Fin 256) (c : Fin 1024) :
    ctxOf (F := Ideal) i x0 x1 x2 x3 x4 (ix2 r c) = headVal i x0 x1 x2 x3 x4 (headIx c) (ix2 r (laneIx c)) := by
  rw [ctx_joined]
  exact joined_apply (headVal i x0 x1 x2 x3 x4) r c

/-- The output block at an entry. -/
theorem out_apply (i : grid1.Coords) (x0 : Vec Ideal S256x1024 .bf16) (x1 x2 : Vec Ideal S4096x1024 .bf16)
    (x3 x4 : Vec Ideal S16x1024 .bf16) (x5 : Vec Ideal S1024x1024 .f32) (r : Fin 256) (n : Fin 1024) :
    attnOut (F := Ideal) i x0 x1 x2 x3 x4 x5 (ix2 r n)
      = ∑ c : Fin 1024, headVal i x0 x1 x2 x3 x4 (headIx c) (ix2 r (laneIx c)) * x5 (ix2 c n) := by
  have e : ∀ y : FVec Ideal S256x1024 .bf16, k1_pay6 (F := Ideal) y x5 (ix2 r n) = ∑ c : Fin 1024, y (ix2 r c) * x5 (ix2 c n) := by
    intro y
    unfold k1_pay6
    pointwise!
  unfold attnOut
  rw [e]
  exact Finset.sum_congr rfl fun c _ => by rw [ctx_apply]

end Cert.KernelIdeal.Value
-- ==== Proof.Value.Rows.lean ====
module

public import proofs.«01_k».proof.Proof.KernelIdealRun.ProjClosed
public import proofs.«01_k».proof.Proof.Value.Joined

@[expose] public section

set_option maxRecDepth 16384

noncomputable section

namespace Cert.KernelIdeal.Value

open Idealize.ShloMosaic
open Cert.KernelIdeal Cert.KernelIdeal.Gen Cert.KernelIdeal.Run
open scoped BigOperators

/-! # The projection body's blocks, read at an entry -/

/-- The factor the kernel multiplies the queries by: one over the logarithm of two, over the square root of 64. -/
def scale : ℝ := (Real.log 2)⁻¹ * (Real.sqrt 64)⁻¹

/-- The query block at an entry. -/
theorem query_apply (x : Vec Ideal S512x1024 .f32) (w : Vec Ideal S1024x1024 .f32) (r : Fin 512) (n : Fin 1024) :
    k0_pay4 (F := Ideal) x w (ix2 r n) = (∑ c : Fin 1024, x (ix2 r c) * w (ix2 c n)) * (scale : EReal) := by
  have e : (Named.named (F := Ideal) κ "qk_scale" (φ := .f32) 0x3E38AA3B#32 : EReal) = (scale : EReal) := rfl
  rw [← e]
  unfold k0_pay4 k0_pay1
  pointwise!

/-- The key block at an entry. -/
theorem key_apply (x : Vec Ideal S512x1024 .f32) (w : Vec Ideal S1024x1024 .f32) (r : Fin 512) (n : Fin 1024) :
    k0_pay5 (F := Ideal) x w (ix2 r n) = ∑ c : Fin 1024, x (ix2 r c) * w (ix2 c n) := by
  unfold k0_pay5 k0_pay1 k0_pay2
  pointwise!

/-- The value block at an entry. -/
theorem value_apply (x : Vec Ideal S512x1024 .f32) (w : Vec Ideal S1024x1024 .f32) (r : Fin 512) (n : Fin 1024) :
    k0_pay6 (F := Ideal) x w (ix2 r n) = ∑ c : Fin 1024, x (ix2 r c) * w (ix2 c n) := by
  unfold k0_pay6 k0_pay1 k0_pay3
  pointwise!

/-- The gathered rows' keys at an entry. -/
theorem selKey_apply (y : FVec Ideal S16x1024 .bf16) (w : Vec Ideal S1024x1024 .f32) (g : Fin 16) (n : Fin 1024) :
    k0_pay8 (F := Ideal) w y (ix2 g n) = ∑ c : Fin 1024, y (ix2 g c) * w (ix2 c n) := by
  unfold k0_pay8 k0_pay2
  pointwise!

/-- The gathered rows' values at an entry. -/
theorem selValue_apply (y : FVec Ideal S16x1024 .bf16) (w : Vec Ideal S1024x1024 .f32) (g : Fin 16) (n : Fin 1024) :
    k0_pay9 (F := Ideal) w y (ix2 g n) = ∑ c : Fin 1024, y (ix2 g c) * w (ix2 c n) := by
  unfold k0_pay9 k0_pay3
  pointwise!

/-- The selected rows at an entry: row `g` is the row its index word names. -/
theorem gathered_apply (x0 : Vec Ideal S1x16 .i32) (x1 : Vec Ideal S512x1024 .f32) (g : Fin 16) (c : Fin 1024)
    (h : (x0 (gcell g)).toNat < 512) :
    gathered (F := Ideal) x0 x1 (ix2 g c) = x1 (ix2 ⟨(x0 (gcell g)).toNat, h⟩ c) := by
  have e : gathered (F := Ideal) x0 x1 = k0_pay7 (F := Ideal) (selRow x0 x1 0) (selRow x0 x1 1) (selRow x0 x1 2) (selRow x0 x1 3) (selRow x0 x1 4) (selRow x0 x1 5) (selRow x0 x1 6) (selRow x0 x1 7) (selRow x0 x1 8) (selRow x0 x1 9) (selRow x0 x1 10) (selRow x0 x1 11) (selRow x0 x1 12) (selRow x0 x1 13) (selRow x0 x1 14) (selRow x0 x1 15) := by
    unfold gathered
    simp only [k0_pay10, k0_pay11, k0_pay12, k0_pay13, k0_pay14, k0_pay15, k0_pay16, k0_pay17, k0_pay18, k0_pay19, k0_pay20, k0_pay21, k0_pay22, k0_pay23, k0_pay24, shapeCast_id]
  have e2 := concatenate_ofFn_apply (t := S16x1024) (s₁ := S1x1024) (α := EReal) 0 (selRow (F := Ideal) x0 x1)
    Cert.KernelIdeal.Gen.concatenates_S1x1024_S1x1024_S1x1024_S1x1024_S1x1024_S1x1024_S1x1024_S1x1024_S1x1024_S1x1024_S1x1024_S1x1024_S1x1024_S1x1024_S1x1024_S1x1024_S16x1024_d0 rfl 1 rfl (ix2 g c) g (Nat.div_one _)
    (ix2 0 c) (Nat.mod_one _).symm (fun b hb => by
      match b, hb with
      | ⟨0, _⟩, hb => exact absurd rfl hb
      | ⟨1, _⟩, _ => rfl)
  have e3 : k0_pay7 (F := Ideal) (selRow x0 x1 0) (selRow x0 x1 1) (selRow x0 x1 2) (selRow x0 x1 3) (selRow x0 x1 4) (selRow x0 x1 5) (selRow x0 x1 6) (selRow x0 x1 7) (selRow x0 x1 8) (selRow x0 x1 9) (selRow x0 x1 10) (selRow x0 x1 11) (selRow x0 x1 12) (selRow x0 x1 13) (selRow x0 x1 14) (selRow x0 x1 15) (ix2 g c) = selRow (F := Ideal) x0 x1 g (ix2 0 c) := by
    unfold k0_pay7
    rw [shapeCast_id]
    exact e2
  rw [e, e3]
  unfold selRow
  refine (window_apply x1 _ 0 _ 0 c (by omega) (by omega)).trans ?_
  congr 2
  · exact Fin.ext (Nat.min_eq_left (by omega))
  · exact Fin.ext (Nat.zero_add _)

end Cert.KernelIdeal.Value
-- ==== Proof.Value.Arrays.lean ====
module

public import proofs.«01_k».proof.Proof.KernelIdealRun.ProjData
public import proofs.«01_k».proof.Proof.KernelIdealRun.AttnData
public import proofs.«01_k».proof.Proof.Value.Rows
public import Idealize.ShloMosaic.Lib.Pipeline.ValueKit.Geometry

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open scoped BigOperators

/-! # The arrays the projection region leaves -/

/-- The projected queries, scaled. -/
def queries (x : Vec Ideal S4096x1024 .f32) (w : Vec Ideal S1024x1024 .f32) : Vec Ideal S4096x1024 .bf16 := fun j =>
  (∑ c : Fin 1024, x (ix2 (j 0) c) * w (ix2 c (j 1))) * (scale : EReal)

/-- The projected keys, or the projected values. -/
def project (x : Vec Ideal S4096x1024 .f32) (w : Vec Ideal S1024x1024 .f32) : Vec Ideal S4096x1024 .bf16 := fun j =>
  ∑ c : Fin 1024, x (ix2 (j 0) c) * w (ix2 c (j 1))

/-- The chosen rows, projected. -/
def projectRows (x : Vec Ideal S4096x1024 .f32) (g : Vec Ideal S1x16 .i32) (w : Vec Ideal S1024x1024 .f32)
    (h : ∀ y : S1x16.Idx, ((g y : BitVec 32)).toNat < 512) : Vec Ideal S16x1024 .bf16 := fun j =>
  ∑ c : Fin 1024, x (ix2 ⟨((g (ix2 0 (j 0)) : BitVec 32)).toNat, (h _).trans (by decide)⟩ c) * w (ix2 c (j 1))

theorem index0_0 : ∀ t : Fin cfg0.N, win0_0.index t = ![0, 0] := (by decide +kernel : ∀ t : Fin grid0.N, _)
theorem index0_1 : ∀ t : Fin cfg0.N, win0_1.index t = ![t.val, 0] := (by decide +kernel : ∀ t : Fin grid0.N, _)
theorem index0_2 : ∀ t : Fin cfg0.N, win0_2.index t = ![0, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![0, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)
theorem index0_7 : ∀ t : Fin cfg0.N, win0_7.index t = ![t.val, 0] := (by decide +kernel : ∀ t : Fin grid0.N, _)
theorem index0_8 : ∀ t : Fin cfg0.N, win0_8.index t = ![0, 0] := (by decide +kernel : ∀ t : Fin grid0.N, _)
theorem index0_9 : ∀ t : Fin cfg0.N, win0_9.index t = ![0, 0] := (by decide +kernel : ∀ t : Fin grid0.N, _)

variable (V : Dev nD → Valuation τ sig (Elt Ideal)) (c : Dev nD)

/-- The block of hidden states at a point holds 512 rows of the hidden states. -/
theorem hidden_block (t : Fin cfg0.N) (r : Fin 512) (k : Fin 1024) (h : t.val * 512 + r.val < 4096) :
    (iblk0 V c 1 t : Vec Ideal S512x1024 .f32) (ix2 r k) = (V c main_v0 : Vec Ideal S4096x1024 .f32) (ix2 ⟨t.val * 512 + r.val, h⟩ k) := by
  unfold iblk0
  blk_simp
  congr 1
  blk_ext [index0_1]

/-- The query projection's block is the query projection. -/
theorem wq_block (t : Fin cfg0.N) : (iblk0 V c 2 t : Vec Ideal S1024x1024 .f32) = V c main_arg2 := by
  unfold iblk0
  funext j
  blk_simp
  congr 1
  blk_ext [index0_2]

/-- The key projection's block is the key projection. -/
theorem wk_block (t : Fin cfg0.N) : (iblk0 V c 3 t : Vec Ideal S1024x1024 .f32) = V c main_arg3 := by
  unfold iblk0
  funext j
  blk_simp
  congr 1
  blk_ext [index0_3]

/-- The value projection's block is the value projection. -/
theorem wv_block (t : Fin cfg0.N) : (iblk0 V c 4 t : Vec Ideal S1024x1024 .f32) = V c main_arg4 := by
  unfold iblk0
  funext j
  blk_simp
  congr 1
  blk_ext [index0_4]

/-- The block of index words is the index argument. -/
theorem words_block (t : Fin cfg0.N) : (iblk0 V c 0 t : Vec Ideal S1x16 .i32) = V c main_arg1 := by
  unfold iblk0
  funext j
  blk_simp
  congr 1
  blk_ext [index0_0]

/-- After the projection region the query array holds the scaled projections. -/
theorem query_array : (dat0 V c).arrAt 5 cfg0.N = queries (V c main_v0) (V c main_arg2) := by
  refine (dat0 V c).arrAt_eq_of_covers 5 _ (by decide +kernel) fun t hf y => ?_
  rw [dat0_after5]
  blk_simp
  obtain ⟨r, n, rfl⟩ : ∃ (r : Fin 512) (n : Fin 1024), y = ix2 r n := ⟨y 0, y 1, by idx_vars y⟩
  have ht : t.val < 8 := t.isLt
  have e : (win0_5.blk t).view.emb (ix2 r n) = ix2 (⟨t.val * 512 + r.val, by omega⟩ : Fin 4096) n := by blk_ext [index0_5]
  rw [e]
  unfold left0_5
  rw [wq_block]
  refine (query_apply _ _ r n).trans ?_
  unfold queries
  simp only [hidden_block V c t _ _ (show t.val * 512 + r.val < 4096 by omega)]
  rfl

/-- After the projection region the key array holds the projections. -/
theorem key_array : (dat0 V c).arrAt 6 cfg0.N = project (V c main_v0) (V c main_arg3) := by
  refine (dat0 V c).arrAt_eq_of_covers 6 _ (by decide +kernel) fun t hf y => ?_
  rw [dat0_after6]
  blk_simp
  obtain ⟨r, n, rfl⟩ : ∃ (r : Fin 512) (n : Fin 1024), y = ix2 r n := ⟨y 0, y 1, by idx_vars y⟩
  have ht : t.val < 8 := t.isLt
  have e : (win0_6.blk t).view.emb (ix2 r n) = ix2 (⟨t.val * 512 + r.val, by omega⟩ : Fin 4096) n := by blk_ext [index0_6]
  rw [e]
  unfold left0_6
  rw [wk_block]
  refine (key_apply _ _ r n).trans ?_
  unfold project
  simp only [hidden_block V c t _ _ (show t.val * 512 + r.val < 4096 by omega)]
  rfl

/-- After the projection region the value array holds the projections. -/
theorem value_array : (dat0 V c).arrAt 7 cfg0.N = project (V c main_v0) (V c main_arg4) := by
  refine (dat0 V c).arrAt_eq_of_covers 7 _ (by decide +kernel) fun t hf y => ?_
  rw [dat0_after7]
  blk_simp
  obtain ⟨r, n, rfl⟩ : ∃ (r : Fin 512) (n : Fin 1024), y = ix2 r n := ⟨y 0, y 1, by idx_vars y⟩
  have ht : t.val < 8 := t.isLt
  have e : (win0_7.blk t).view.emb (ix2 r n) = ix2 (⟨t.val * 512 + r.val, by omega⟩ : Fin 4096) n := by blk_ext [index0_7]
  rw [e]
  unfold left0_7
  rw [wv_block]
  refine (value_apply _ _ r n).trans ?_
  unfold project
  simp only [hidden_block V c t _ _ (show t.val * 512 + r.val < 4096 by omega)]
  rfl

/-- After the projection region the array of the chosen rows' keys holds their projections. -/
theorem selKey_array (h : ∀ y : S1x16.Idx, ((V c main_arg1 : IVec S1x16 32) y).toNat < 512) :
    (dat0 V c).arrAt 8 cfg0.N = projectRows (V c main_v0) (V c main_arg1) (V c main_arg3) h := by
  refine (dat0 V c).arrAt_eq_of_covers 8 _ (by decide +kernel) fun t hf y => ?_
  rw [dat0_after8]
  blk_simp
  obtain ⟨g, n, rfl⟩ : ∃ (g : Fin 16) (n : Fin 1024), y = ix2 g n := ⟨y 0, y 1, by idx_vars y⟩
  have e : (win0_8.blk t).view.emb (ix2 g n) = ix2 g n := by blk_ext [index0_8]
  rw [e]
  unfold left0_8
  rw [wk_block, words_block]
  refine (selKey_apply _ _ g n).trans ?_
  have hg := h (gcell g)
  unfold projectRows
  refine Finset.sum_congr rfl fun k _ => ?_
  rw [gathered_apply _ _ g k hg, hidden_block V c _ _ _ (by show 0 * 512 + _ < 4096; simp only; omega)]
  congr 3
  have eg : gcell g = ix2 0 g := by
    funext k
    match k with
    | ⟨0, _⟩ => rfl
    | ⟨1, _⟩ => rfl
  refine Fin.ext ?_
  show 0 * 512 + ((V c main_arg1 : IVec S1x16 32) (gcell g)).toNat = _
  rw [Nat.zero_mul, Nat.zero_add, eg]
  rfl

/-- After the projection region the array of the chosen rows' values holds their projections. -/
theorem selValue_array (h : ∀ y : S1x16.Idx, ((V c main_arg1 : IVec S1x16 32) y).toNat < 512) :
    (dat0 V c).arrAt 9 cfg0.N = projectRows (V c main_v0) (V c main_arg1) (V c main_arg4) h := by
  refine (dat0 V c).arrAt_eq_of_covers 9 _ (by decide +kernel) fun t hf y => ?_
  rw [dat0_after9]
  blk_simp
  obtain ⟨g, n, rfl⟩ : ∃ (g : Fin 16) (n : Fin 1024), y = ix2 g n := ⟨y 0, y 1, by idx_vars y⟩
  have e : (win0_9.blk t).view.emb (ix2 g n) = ix2 g n := by blk_ext [index0_9]
  rw [e]
  unfold left0_9
  rw [wv_block, words_block]
  refine (selValue_apply _ _ g n).trans ?_
  have hg := h (gcell g)
  unfold projectRows
  refine Finset.sum_congr rfl fun k _ => ?_
  rw [gathered_apply _ _ g k hg, hidden_block V c _ _ _ (by show 0 * 512 + _ < 4096; simp only; omega)]
  congr 3
  have eg : gcell g = ix2 0 g := by
    funext k
    match k with
    | ⟨0, _⟩ => rfl
    | ⟨1, _⟩ => rfl
  refine Fin.ext ?_
  show 0 * 512 + ((V c main_arg1 : IVec S1x16 32) (gcell g)).toNat = _
  rw [Nat.zero_mul, Nat.zero_add, eg]
  rfl

end Cert.KernelIdeal.Value
-- ==== Proof.Value.AttnArray.lean ====
module

public import proofs.«01_k».proof.Proof.KernelIdealRun.AttnData
public import proofs.«01_k».proof.Proof.Value.Joined
public import Idealize.ShloMosaic.Lib.Pipeline.ValueKit.Geometry

@[expose] public section

set_option maxRecDepth 16384

noncomputable section

namespace Cert.KernelIdeal.Value

open Idealize.ShloMosaic Idealize.ShloMosaic.TcCoe Idealize.SL.Sem
open Cert.KernelIdeal Cert.KernelIdeal.Gen Cert.KernelIdeal.Run
open scoped BigOperators

/-! # What the attention region leaves in its output array -/

/-- The block of 256 rows that holds row `s`. -/
def blockOf (s : Fin 4096) : Fin 16 := ⟨s.val / 256, by omega⟩

/-- The base-two exponential of the score of query `s` against key `t`, zero when the key is not near. -/
def nearWeight (q k : Vec Ideal S4096x1024 .bf16) (h : Fin 16) (s t : Fin 4096) : EReal :=
  Ideal.exp2 (∑ e : Fin 64, q (ix2 s (col h e)) * k (ix2 t (col h e)) + if Near s t then (0 : EReal) else ⊥)

/-- The base-two exponential of the score of query `s` against a chosen key. -/
def chosenWeight (q : Vec Ideal S4096x1024 .bf16) (sk : Vec Ideal S16x1024 .bf16) (h : Fin 16) (s : Fin 4096) (g : Fin 16) : EReal :=
  Ideal.exp2 (∑ e : Fin 64, q (ix2 s (col h e)) * sk (ix2 g (col h e)))

/-- One head's attended entry of query `s`. -/
def headAt (q k v : Vec Ideal S4096x1024 .bf16) (sk sv : Vec Ideal S16x1024 .bf16) (s : Fin 4096) (h : Fin 16) (e : Fin 64) : EReal :=
  Ideal.div
    (∑ w : Fin 768, nearWeight q k h s (keyIx (blockOf s) w) * v (ix2 (keyIx (blockOf s) w) (col h e))
      + ∑ g : Fin 16, chosenWeight q sk h s g * sv (ix2 g (col h e)))
    (∑ w : Fin 768, nearWeight q k h s (keyIx (blockOf s) w) + ∑ g : Fin 16, chosenWeight q sk h s g)

/-- The attention's output: the joined heads times the output projection. -/
def attended (q k v : Vec Ideal S4096x1024 .bf16) (sk sv : Vec Ideal S16x1024 .bf16) (wo : Vec Ideal S1024x1024 .f32) :
    Vec Ideal S4096x1024 .f32 := fun j =>
  ∑ c : Fin 1024, headAt q k v sk sv (j 0) (headIx c) (laneIx c) * wo (ix2 c (j 1))

theorem index1_0 : ∀ t : Fin cfg1.N, win1_0.index t = ![t.val, 0] := (by decide +kernel : ∀ t : Fin grid1.N, _)
theorem index1_1 : ∀ t : Fin cfg1.N, win1_1.index t = ![0, 0] := (by decide +kernel : ∀ t : Fin grid1.N, _)
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)
theorem index1_4 : ∀ t : Fin cfg1.N, win1_4.index t = ![0, 0] := (by decide +kernel : ∀ t : Fin grid1.N, _)
theorem index1_5 : ∀ t : Fin cfg1.N, win1_5.index t = ![0, 0] := (by decide +kernel : ∀ t : Fin grid1.N, _)
theorem index1_6 : ∀ t : Fin cfg1.N, win1_6.index t = ![t.val, 0] := (by decide +kernel : ∀ t : Fin grid1.N, _)
theorem coords1 : ∀ t : Fin cfg1.N, (grid1.coords t 0).val = t.val := (by decide +kernel : ∀ t : Fin grid1.N, _)

variable (V : Dev nD → Valuation τ sig (Elt Ideal)) (c : Dev nD)

/-- The block of queries at a point holds 256 rows of the query array. -/
theorem query_block (t : Fin cfg1.N) (r : Fin 256) (k : Fin 1024) :
    (iblk1 V c 0 t : Vec Ideal S256x1024 .bf16) (ix2 r k) = (V c main_call0_v0_0 : Vec Ideal S4096x1024 .bf16) (ix2 (queryIx (grid1.coords t 0) r) k) := by
  have ht := coords1 t
  unfold iblk1
  blk_simp
  congr 1
  unfold queryIx
  blk_ext [index1_0]

/-- The block of the keys is the whole array. -/
theorem keys_block (t : Fin cfg1.N) : (iblk1 V c 1 t : Vec Ideal S4096x1024 .bf16) = V c main_call0_v0_1 := by
  unfold iblk1
  funext j
  blk_simp
  congr 1
  blk_ext [index1_1]

/-- The block of the values is the whole array. -/
theorem values_block (t : Fin cfg1.N) : (iblk1 V c 2 t : Vec Ideal S4096x1024 .bf16) = V c main_call0_v0_2 := by
  unfold iblk1
  funext j
  blk_simp
  congr 1
  blk_ext [index1_2]

/-- The block of the chosen keys is the whole array. -/
theorem selKeys_block (t : Fin cfg1.N) : (iblk1 V c 3 t : Vec Ideal S16x1024 .bf16) = V c main_call0_v0_3 := by
  unfold iblk1
  funext j
  blk_simp
  congr 1
  blk_ext [index1_3]

/-- The block of the chosen values is the whole array. -/
theorem selValues_block (t : Fin cfg1.N) : (iblk1 V c 4 t : Vec Ideal S16x1024 .bf16) = V c main_call0_v0_4 := by
  unfold iblk1
  funext j
  blk_simp
  congr 1
  blk_ext [index1_4]

/-- The block of the output projection is the whole array. -/
theorem wo_block (t : Fin cfg1.N) : (iblk1 V c 5 t : Vec Ideal S1024x1024 .f32) = V c main_arg5 := by
  unfold iblk1
  funext j
  blk_simp
  congr 1
  blk_ext [index1_5]

/-- A head's block at a grid point holds the entries of the point's queries. -/
theorem headVal_block (i : grid1.Coords) (x0 : Vec Ideal S256x1024 .bf16) (q k v : Vec Ideal S4096x1024 .bf16)
    (sk sv : Vec Ideal S16x1024 .bf16) (hq : ∀ r n, x0 (ix2 r n) = q (ix2 (queryIx (i 0) r) n)) (h : Fin 16) (r : Fin 256) (e : Fin 64) :
    headVal i x0 k v sk sv h (ix2 r e) = headAt q k v sk sv (queryIx (i 0) r) h e := by
  have hb : blockOf (queryIx (i 0) r) = i 0 := Fin.ext (by
    have := r.isLt
    show ((i 0).val * 256 + r.val) / 256 = (i 0).val
    omega)
  have hl : ∀ w, localWeight (i 0) x0 k h r w = nearWeight q k h (queryIx (i 0) r) (keyIx (i 0) w) := fun w => by
    unfold localWeight nearWeight; simp only [hq]
  have hg : ∀ g, globalWeight x0 sk h r g = chosenWeight q sk h (queryIx (i 0) r) g := fun g => by
    unfold globalWeight chosenWeight; simp only [hq]
  unfold headVal headAt
  rw [hb]
  simp only [← hl, ← hg]
  rfl

/-- After the attention region the output array holds the attended rows. -/
theorem out_array : (dat1 V c).arrAt 6 cfg1.N
    = attended (V c main_call0_v0_0) (V c main_call0_v0_1) (V c main_call0_v0_2) (V c main_call0_v0_3) (V c main_call0_v0_4) (V c main_arg5) := by
  refine (dat1 V c).arrAt_eq_of_covers 6 _ (by decide +kernel) fun t hf y => ?_
  rw [dat1_after6]
  blk_simp
  obtain ⟨r, n, rfl⟩ : ∃ (r : Fin 256) (n : Fin 1024), y = ix2 r n := ⟨y 0, y 1, by idx_vars y⟩
  have ht := coords1 t
  have e : (win1_6.blk t).view.emb (ix2 r n) = ix2 (queryIx (grid1.coords t 0) r) n := by unfold queryIx; blk_ext [index1_6]
  rw [e]
  unfold left1_6
  rw [keys_block, values_block, selKeys_block, selValues_block, wo_block]
  refine (out_apply _ _ _ _ _ _ _ r n).trans ?_
  unfold attended
  refine Finset.sum_congr rfl fun k _ => ?_
  rw [headVal_block (grid1.coords t) _ (V c main_call0_v0_0) _ _ _ _ (query_block V c t)]
  rfl

end Cert.KernelIdeal.Value
-- ==== Proof.Value.Result.lean ====
module

public import proofs.«01_k».proof.Proof.KernelIdealRun.Segments
public import proofs.«01_k».proof.Proof.Value.Arrays
public import proofs.«01_k».proof.Proof.Value.AttnArray
public import Idealize.ShloMosaic.Lib.StableHlo.Run
public import Idealize.ShloMosaic.Lib.Claim

@[expose] public section

set_option maxRecDepth 16384

noncomputable section

namespace Cert.KernelIdeal.Value

open Idealize.ShloMosaic Idealize.ShloMosaic.TcCoe Idealize.SL.Sem
open Idealize.ShloMosaic.StableHlo
open Cert.KernelIdeal Cert.KernelIdeal.Gen Cert.KernelIdeal.Run
open scoped BigOperators

/-! # The kernel's result as a function of its arguments -/

variable (m : (ℓ : Loc nD τ sig) → Buf (Elt Ideal) ℓ) (c : Dev nD)

/-- The hidden states reach the first region with the unit axis dropped. -/
theorem hidden_entry (s : Fin 4096) (k : Fin 1024) :
    (V1 m c main_v0 : Vec Ideal S4096x1024 .f32) (ix2 s k) = (m ((c.tc : Thread nD τ).loc main_arg0) : Vec Ideal S1x4096x1024 .f32) (ix3 0 s k) := by
  unfold_abbrev_sides
  after_results
  pointwise!

/-- The result is the second region's array with a unit axis put in front. -/
theorem result_entry (s : Fin 4096) (k : Fin 1024) :
    (V4 m (allOuts m) c main_v2 : Vec Ideal S1x4096x1024 .f32) (ix3 0 s k) = (V3 m (allOuts m) c main_v1 : Vec Ideal S4096x1024 .f32) (ix2 s k) := by
  unfold_abbrev_sides
  after_results
  pointwise!

/-- An argument as the first region finds it. -/
theorem arg_mid (r : Ref sig .tc) (h : r ∉ hostOps0_W) : V1 m c r = m ((c.tc : Thread nD τ).loc r) := V1_of m c r h

/-- The result's entry, from the projected arrays. -/
theorem kernel_result (hg : ∀ y : S1x16.Idx, ((m ((c.tc : Thread nD τ).loc main_arg1) : IVec S1x16 32) y).toNat < 512)
    (s : Fin 4096) (n : Fin 1024) :
    (V4 m (allOuts m) c main_v2 : Vec Ideal S1x4096x1024 .f32) (ix3 0 s n)
      = ∑ k : Fin 1024, headAt (queries (V1 m c main_v0) (m ((c.tc : Thread nD τ).loc main_arg2)))
          (project (V1 m c main_v0) (m ((c.tc : Thread nD τ).loc main_arg3)))
          (project (V1 m c main_v0) (m ((c.tc : Thread nD τ).loc main_arg4)))
          (projectRows (V1 m c main_v0) (m ((c.tc : Thread nD τ).loc main_arg1)) (m ((c.tc : Thread nD τ).loc main_arg3)) hg)
          (projectRows (V1 m c main_v0) (m ((c.tc : Thread nD τ).loc main_arg1)) (m ((c.tc : Thread nD τ).loc main_arg4)) hg)
          s (headIx k) (laneIx k) * (m ((c.tc : Thread nD τ).loc main_arg5) : Vec Ideal S1024x1024 .f32) (ix2 k n) := by
  have e1 := arg_mid m c main_arg1 (by decide)
  have e2 := arg_mid m c main_arg2 (by decide)
  have e3 := arg_mid m c main_arg3 (by decide)
  have e4 := arg_mid m c main_arg4 (by decide)
  have e5 : V2 m (midOuts m) c main_arg5 = m ((c.tc : Thread nD τ).loc main_arg5) :=
    (V2_of m (midOuts m) c main_arg5 (by decide)).trans (arg_mid m c main_arg5 (by decide))
  have hg' : ∀ y : S1x16.Idx, ((V1 m c main_arg1 : IVec S1x16 32) y).toNat < 512 := fun y => by rw [e1]; exact hg y
  have a0 := (mid_arr0 m c).trans (query_array (V1 m) c)
  have a1 := (mid_arr1 m c).trans (key_array (V1 m) c)
  have a2 := (mid_arr2 m c).trans (value_array (V1 m) c)
  have a3 := (mid_arr3 m c).trans (selKey_array (V1 m) c hg')
  have a4 := (mid_arr4 m c).trans (selValue_array (V1 m) c hg')
  have rows : ∀ w, projectRows (V1 m c main_v0) (V1 m c main_arg1) w hg'
      = projectRows (V1 m c main_v0) (m ((c.tc : Thread nD τ).loc main_arg1)) w hg := fun w => by
    unfold projectRows
    simp only [e1]
  rw [result_entry, all_res, out_array, a0, a1, a2, a3, a4, e5, e2, e3, e4, rows, rows]
  rfl

end Cert.KernelIdeal.Value
-- ==== Proof.Reference.Steps.lean ====
module

public import proofs.«01_k».proof.Proof.Gen.ReferenceIdeal.Run
public import Idealize.ShloMosaic.Lib.Pointwise
public import Idealize.ShloMosaic.Lib.ValueIdx
public import Idealize.ShloMosaic.PureOps.Ideal.Laws

@[expose] public section

set_option maxRecDepth 16384

noncomputable section

namespace Cert.ReferenceIdeal.Value

open Idealize.ShloMosaic Idealize.ShloMosaic.TcCoe Idealize.SL.Sem
open Cert.ReferenceIdeal Cert.ReferenceIdeal.Gen
open scoped BigOperators

/-! # The reference's result, cut into named steps -/

/-- A projection of the hidden states, cut into heads. -/
def heads (x : FVec Ideal S1x4096x1024 .f32) (w : FVec Ideal S1024x1024 .f32) : FVec Ideal S1x4096x16x64 .f32 :=
  shapeCast S1x4096x16x64 (Host.dotGeneral dot_S1x4096x1024_S1024x1024_S1x4096x1024_2_0_01_1_n_n none x w) shapeCasts_S1x4096x1024_S1x4096x16x64

/-- The queries, divided by eight. -/
def queryHeads (x : FVec Ideal S1x4096x1024 .f32) (wq : FVec Ideal S1024x1024 .f32) : FVec Ideal S1x4096x16x64 .f32 :=
  Host.divf (heads x wq) (broadcastInDim S1x4096x16x64 ![] bcast_S_S1x4096x16x64 (constant S_ .f32 0x41000000#32))

/-- The batch and row of each chosen position. -/
def pairs (g : IVec S1x16 32) : IVec S1x16x2 32 :=
  concatenate S1x16x2 2 [⟨S1x16x1, (broadcastInDim S1x16x1 ![0, 1] bcast_S1x16_S1x16x1_0_1 (broadcastInDim S1x16 ![0, 1] bcast_S1x1_S1x16_0_1 (select (cmpi .slt (broadcastInDim S1x1 ![0] bcast_S1_S1x1_0 (iotaInDim S1 32 0)) (broadcastInDim S1x1 ![] bcast_S_S1x1 (constantI S_ 32 0#32))) (addi (broadcastInDim S1x1 ![0] bcast_S1_S1x1_0 (iotaInDim S1 32 0)) (broadcastInDim S1x1 ![] bcast_S_S1x1 (constantI S_ 32 1#32))) (broadcastInDim S1x1 ![0] bcast_S1_S1x1_0 (iotaInDim S1 32 0)))))⟩, ⟨S1x16x1, (broadcastInDim S1x16x1 ![0, 1] bcast_S1x16_S1x16x1_0_1 (select (cmpi .slt g (broadcastInDim S1x16 ![] bcast_S_S1x16 (constantI S_ 32 0#32))) (addi g (broadcastInDim S1x16 ![] bcast_S_S1x16 (constantI S_ 32 4096#32))) g))⟩] concatenates_S1x16x1_S1x16x1_S1x16x2_d2

/-- The chosen rows of a projection. -/
def chosen (x : FVec Ideal S1x4096x1024 .f32) (w : FVec Ideal S1024x1024 .f32) (g : IVec S1x16 32) : FVec Ideal S1x16x16x64 .f32 :=
  Host.gather gather_S1x4096x16x64_S1x16x2_S1x16x16x64_23_01_n_n_01_2_111664 (heads x w) (pairs g)

/-- The band of near pairs of positions. -/
def nearMask  : IVec S4096x4096 1 :=
  andi (cmpi .sle (subi (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (broadcastInDim S4096x4096 ![] bcast_S_S4096x4096 (constantI S_ 32 256#32))) (cmpi .sge (subi (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))) (broadcastInDim S4096x4096 ![] bcast_S_S4096x4096 (constantI S_ 32 4294967040#32)))

/-- The scores: against the chosen keys, then against every key, those not near at negative infinity. -/
def scores (x : FVec Ideal S1x4096x1024 .f32) (g : IVec S1x16 32) (wq : FVec Ideal S1024x1024 .f32) (wk : FVec Ideal S1024x1024 .f32) : FVec Ideal S1x4096x16x4112 .f32 :=
  concatenate S1x4096x16x4112 3 [⟨S1x4096x16x16, (transpose S1x4096x16x16 [0, 3, 1, 2] (Host.dotGeneral dot_S1x16x16x64_S1x4096x16x64_S1x16x16x4096_3_3_1_1_02_02 none (chosen x wk g) (queryHeads x wq)) transposes_S1x16x16x4096_S1x4096x16x16_0_3_1_2)⟩, ⟨S1x4096x16x4096, (select (broadcastInDim S1x4096x16x4096 ![0, 1, 2, 3] bcast_S1x4096x1x4096_S1x4096x16x4096_0_1_2_3 (broadcastInDim S1x4096x1x4096 ![1, 3] bcast_S4096x4096_S1x4096x1x4096_1_3 nearMask)) (transpose S1x4096x16x4096 [0, 3, 1, 2] (Host.dotGeneral dot_S1x4096x16x64_S1x4096x16x64_S1x16x4096x4096_3_3_1_1_02_02 none (heads x wk) (queryHeads x wq)) transposes_S1x16x4096x4096_S1x4096x16x4096_0_3_1_2) (broadcastInDim S1x4096x16x4096 ![] bcast_S_S1x4096x16x4096 (id (constant S_ .f32 0xFF800000#32))))⟩] concatenates_S1x4096x16x16_S1x4096x16x4096_S1x4096x16x4112_d3

/-- The fold of the maximum over each row. -/
def rowFold (p : FVec Ideal S1x4096x16x4112 .f32) : FVec Ideal S1x4096x16 .f32 :=
  Host.reduce FloatOps.maximumf p (constant S_ .f32 0xFF800000#32) reducesTo_S1x4096x16x4112_S1x4096x16_d3 h_S_

/-- The greatest score of each row. -/
def rowMax (p : FVec Ideal S1x4096x16x4112 .f32) : FVec Ideal S1x4096x16 .f32 :=
  maximumf (broadcastInDim S1x4096x16 ![] bcast_S_S1x4096x16 (constant S_ .f32 0xFF800000#32)) (rowFold p)

/-- The exponentials of the scores less their row's greatest. -/
def weights (p : FVec Ideal S1x4096x16x4112 .f32) : FVec Ideal S1x4096x16x4112 .f32 :=
  Host.exp (subf p (broadcastInDim S1x4096x16x4112 ![0, 1, 2, 3] bcast_S1x4096x16x1_S1x4096x16x4112_0_1_2_3 (broadcastInDim S1x4096x16x1 ![0, 1, 2] bcast_S1x4096x16_S1x4096x16x1_0_1_2 (rowMax p))))

/-- The weights over their row's sum. -/
def probs (p : FVec Ideal S1x4096x16x4112 .f32) : FVec Ideal S1x4096x16x4112 .f32 :=
  Host.divf (weights p) (broadcastInDim S1x4096x16x4112 ![0, 1, 2, 3] bcast_S1x4096x16x1_S1x4096x16x4112_0_1_2_3 (broadcastInDim S1x4096x16x1 ![0, 1, 2] bcast_S1x4096x16_S1x4096x16x1_0_1_2 (Host.reduceAdd (weights p) (constant S_ .f32 0x00000000#32) reducesTo_S1x4096x16x4112_S1x4096x16_d3 h_S_)))

/-- The attended values of the chosen positions. -/
def attendChosen (x : FVec Ideal S1x4096x1024 .f32) (wv : FVec Ideal S1024x1024 .f32) (g : IVec S1x16 32) (p : FVec Ideal S1x4096x16x4112 .f32) : FVec Ideal S1x4096x16x64 .f32 :=
  transpose S1x4096x16x64 [0, 3, 1, 2] (Host.dotGeneral dot_S1x16x16x64_S1x4096x16x16_S1x16x64x4096_1_3_3_1_02_02 none (chosen x wv g) (extractStridedSlice S1x4096x16x16 ![0, 0, 0, 0] p slices_S1x4096x16x4112_S1x4096x16x16_0_0_0_0)) transposes_S1x16x64x4096_S1x4096x16x64_0_3_1_2

/-- The attended values of the near positions. -/
def attendNear (x : FVec Ideal S1x4096x1024 .f32) (wv : FVec Ideal S1024x1024 .f32) (p : FVec Ideal S1x4096x16x4112 .f32) : FVec Ideal S1x4096x16x64 .f32 :=
  transpose S1x4096x16x64 [0, 3, 1, 2] (Host.dotGeneral dot_S1x4096x16x64_S1x4096x16x4096_S1x16x64x4096_1_3_3_1_02_02 none (heads x wv) (extractStridedSlice S1x4096x16x4096 ![0, 0, 0, 16] p slices_S1x4096x16x4112_S1x4096x16x4096_0_0_0_16)) transposes_S1x16x64x4096_S1x4096x16x64_0_3_1_2

/-- The whole reference. -/
def whole (x : FVec Ideal S1x4096x1024 .f32) (g : IVec S1x16 32) (wq : FVec Ideal S1024x1024 .f32) (wk : FVec Ideal S1024x1024 .f32) (wv : FVec Ideal S1024x1024 .f32) (wo : FVec Ideal S1024x1024 .f32) : FVec Ideal S1x4096x1024 .f32 :=
  Host.dotGeneral dot_S1x4096x1024_S1024x1024_S1x4096x1024_2_0_01_1_n_n none (shapeCast S1x4096x1024 (addf (attendChosen x wv g (probs (scores x g wq wk))) (attendNear x wv (probs (scores x g wq wk)))) shapeCasts_S1x4096x16x64_S1x4096x1024) wo

/-- The reference's result is the named steps of its arguments. -/
theorem result_whole (m : (ℓ : Loc nD τ sig) → Buf (Elt Ideal) ℓ) (c : Dev nD) :
    res_main_v77 m c = whole (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.ReferenceIdeal.Value
-- ==== Proof.Reference.Entries.lean ====
module

public import proofs.«01_k».proof.Proof.Reference.Steps
public import proofs.«01_k».proof.Proof.Value.Bias

@[expose] public section

set_option maxRecDepth 16384

noncomputable section

namespace Cert.ReferenceIdeal.Value

open Idealize.ShloMosaic
open Cert.ReferenceIdeal Cert.ReferenceIdeal.Gen
open scoped BigOperators

/-! # The reference's steps, read at an entry -/

/-- The column of head `h` at place `e`. -/
def place (h : Fin 16) (e : Fin 64) : Fin 1024 := ⟨64 * h.val + e.val, by omega⟩

/-- A projection's heads at an entry. -/
theorem heads_apply (x : FVec Ideal S1x4096x1024 .f32) (w : FVec Ideal S1024x1024 .f32) (s : Fin 4096) (h : Fin 16) (e : Fin 64) :
    heads x w (ix4 0 s h e) = ∑ c : Fin 1024, x (ix3 0 s c) * w (ix2 c (place h e)) := by
  unfold heads place
  pointwise!

/-- The divided queries at an entry. -/
theorem queryHeads_apply (x : FVec Ideal S1x4096x1024 .f32) (w : FVec Ideal S1024x1024 .f32) (s : Fin 4096) (h : Fin 16) (e : Fin 64) :
    queryHeads x w (ix4 0 s h e) = Ideal.div (heads x w (ix4 0 s h e)) ((8 : ℝ) : EReal) := by
  have e8 : (FloatOps.ofBits (F := Ideal) .f32 0x41000000#32 : EReal) = ((8 : ℝ) : EReal) := by
    simp [FloatOps.ofBits, Ideal.ofBits, Ideal.ieee]
    rw [← EReal.coe_mul]
    norm_num
  rw [← e8]
  unfold queryHeads
  pointwise!

/-- The result's entry before the output projection. -/
theorem whole_apply (x : FVec Ideal S1x4096x1024 .f32) (g : IVec S1x16 32) (wq wk wv wo : FVec Ideal S1024x1024 .f32) (s : Fin 4096) (n : Fin 1024) :
    whole x g wq wk wv wo (ix3 0 s n) = ∑ c : Fin 1024,
      (attendChosen x wv g (probs (scores x g wq wk)) (ix4 0 s ⟨c.val / 64, by omega⟩ ⟨c.val % 64, by omega⟩)
        + attendNear x wv (probs (scores x g wq wk)) (ix4 0 s ⟨c.val / 64, by omega⟩ ⟨c.val % 64, by omega⟩)) * wo (ix2 c n) := by
  unfold whole
  pointwise!

/-- The attended chosen values at an entry. -/
theorem attendChosen_apply (x : FVec Ideal S1x4096x1024 .f32) (wv : FVec Ideal S1024x1024 .f32) (g : IVec S1x16 32)
    (p : FVec Ideal S1x4096x16x4112 .f32) (s : Fin 4096) (h : Fin 16) (e : Fin 64) :
    attendChosen x wv g p (ix4 0 s h e) = ∑ i : Fin 16, chosen x wv g (ix4 0 i h e) * p (ix4 0 s h ⟨i.val, by omega⟩) := by
  unfold attendChosen
  pointwise!

/-- The attended near values at an entry. -/
theorem attendNear_apply (x : FVec Ideal S1x4096x1024 .f32) (wv : FVec Ideal S1024x1024 .f32)
    (p : FVec Ideal S1x4096x16x4112 .f32) (s : Fin 4096) (h : Fin 16) (e : Fin 64) :
    attendNear x wv p (ix4 0 s h e) = ∑ t : Fin 4096, heads x wv (ix4 0 t h e) * p (ix4 0 s h ⟨16 + t.val, by omega⟩) := by
  unfold attendNear
  pointwise!

/-- The weights at an entry. -/
theorem weights_apply (p : FVec Ideal S1x4096x16x4112 .f32) (s : Fin 4096) (h : Fin 16) (j : Fin 4112) :
    weights p (ix4 0 s h j) = Ideal.exp (p (ix4 0 s h j) - rowMax p (ix3 0 s h)) := by
  unfold weights
  pointwise!

/-- The normalised weights at an entry. -/
theorem probs_apply (p : FVec Ideal S1x4096x16x4112 .f32) (s : Fin 4096) (h : Fin 16) (j : Fin 4112) :
    probs p (ix4 0 s h j) = Ideal.div (weights p (ix4 0 s h j)) (∑ i : Fin 4112, weights p (ix4 0 s h i)) := by
  unfold probs
  pointwise!

/-- The scores against the chosen keys at an entry. -/
theorem scores_chosen (x : FVec Ideal S1x4096x1024 .f32) (g : IVec S1x16 32) (wq wk : FVec Ideal S1024x1024 .f32) (s : Fin 4096) (h : Fin 16) (i : Fin 16) :
    scores x g wq wk (ix4 0 s h ⟨i.val, by omega⟩) = ∑ e : Fin 64, chosen x wk g (ix4 0 i h e) * queryHeads x wq (ix4 0 s h e) := by
  unfold scores
  pointwise!

/-- The scores against every key at an entry. -/
theorem scores_near (x : FVec Ideal S1x4096x1024 .f32) (g : IVec S1x16 32) (wq wk : FVec Ideal S1024x1024 .f32) (s t : Fin 4096) (h : Fin 16) :
    scores x g wq wk (ix4 0 s h ⟨16 + t.val, by omega⟩) = if nearMask (ix2 s t) = 1#1
      then ∑ e : Fin 64, heads x wk (ix4 0 t h e) * queryHeads x wq (ix4 0 s h e) else ⊥ := by
  unfold scores
  pointwise!

end Cert.ReferenceIdeal.Value
-- ==== Proof.Reference.Gather.lean ====
module

public import proofs.«01_k».proof.Proof.Reference.Entries

@[expose] public section

set_option maxRecDepth 16384

noncomputable section

namespace Cert.ReferenceIdeal.Value

open Idealize.ShloMosaic
open Cert.ReferenceIdeal Cert.ReferenceIdeal.Gen
open Cert.KernelIdeal.Value (Near)
open scoped BigOperators

/-! # The reference's band and its chosen rows, read at an entry -/

/-- The difference of two position words lies between −256 and 256 exactly when the positions are near. -/
theorem band_word {A B : ℕ} (hA : A < 4096) (hB : B < 4096) :
    IntOp.andi (IntOp.cmpi .sle (BitVec.ofNat 32 B - BitVec.ofNat 32 A) 256#32)
      (IntOp.cmpi .sge (BitVec.ofNat 32 B - BitVec.ofNat 32 A) 4294967040#32) = 1#1 ↔ Near ⟨A, hA⟩ ⟨B, hB⟩ := by
  have e : (BitVec.ofNat 32 B - BitVec.ofNat 32 A).toInt = (B : Int) - A := by
    rw [BitVec.toInt_sub, BitVec.toInt_ofNat', BitVec.toInt_ofNat']
    simp only [Int.bmod_def]
    omega
  rw [IntOp.andi_eq_one, IntOp.cmpi_sle, IntOp.cmpi_sge, e, show (256#32 : BitVec 32).toInt = 256 from rfl,
    show (4294967040#32 : BitVec 32).toInt = -256 from rfl]
  unfold Near
  simp only
  omega

/-- The band at an entry. -/
theorem nearMask_apply (s t : Fin 4096) : nearMask (ix2 s t) = 1#1 ↔ Near s t := by
  refine Iff.trans ?_ (band_word s.isLt t.isLt)
  refine iff_of_eq (congrArg (· = 1#1) ?_)
  unfold nearMask
  pointwise!

/-- The row component of a chosen position's pair, for a word below 512. -/
theorem pairs_row (g : IVec S1x16 32) (i : Fin 16) (h : (g (ix2 0 i)).toNat < 512) : pairs g (ix3 0 i 1) = g (ix2 0 i) := by
  have e : pairs g (ix3 0 i 1) = Scalar.select (IntOp.cmpi .slt (g (ix2 0 i)) 0#32) (IntOp.addi (g (ix2 0 i)) 4096#32) (g (ix2 0 i)) := by
    unfold pairs
    pointwise!
  rw [e]
  have hn : IntOp.cmpi .slt (g (ix2 0 i)) 0#32 = 0#1 := ValueIdx.eq_zero_of_ne_one fun hc => by
    rw [IntOp.cmpi_slt, BitVec.toInt_eq_toNat_of_lt (by omega)] at hc
    have : (0#32 : BitVec 32).toInt = 0 := rfl
    omega
  rw [hn]
  rfl

set_option maxHeartbeats 1000000 in
/-- The chosen rows at an entry. -/
theorem chosen_apply (x : FVec Ideal S1x4096x1024 .f32) (w : FVec Ideal S1024x1024 .f32) (g : IVec S1x16 32) (i h : Fin 16)
    (e : Fin 64) (hg : (g (ix2 0 i)).toNat < 512) :
    chosen x w g (ix4 0 i h e) = heads x w (ix4 0 ⟨(g (ix2 0 i)).toNat, hg.trans (by decide)⟩ h e) := by
  have hp := pairs_row g i hg
  unfold chosen Host.gather
  congr 1
  funext a
  refine Fin.ext ?_
  match a with
  | ⟨0, _⟩ => exact congrArg Fin.val (Subsingleton.elim (α := Fin 1) _ _)
  | ⟨1, _⟩ =>
    show (gather_S1x4096x16x64_S1x16x2_S1x16x16x64_23_01_n_n_01_2_111664).start (ix4 0 i h e) (pairs g) 1
      + (gather_S1x4096x16x64_S1x16x2_S1x16x16x64_23_01_n_n_01_2_111664).batchCoord (ix4 0 i h e) 1
      + (gather_S1x4096x16x64_S1x16x2_S1x16x16x64_23_01_n_n_01_2_111664).offCoord (ix4 0 i h e) 1 = (g (ix2 0 i)).toNat
    rw [GatherDims.batchCoord_eq_zero _ _ _ List.not_mem_nil,
      GatherDims.offCoord_eq_zero _ _ _ (fun hh => ((GatherDims.mem_sKept _ _).mp hh).1 (List.mem_cons_of_mem _ (List.mem_singleton.mpr rfl)))]
    simp only [Nat.add_zero]
    unfold GatherDims.start
    rw [dif_pos (show (1 : Fin 4) ∈ (gather_S1x4096x16x64_S1x16x2_S1x16x16x64_23_01_n_n_01_2_111664).startIndexMap from List.mem_cons_of_mem _ (List.mem_singleton.mpr rfl))]
    have hsi : (gather_S1x4096x16x64_S1x16x2_S1x16x16x64_23_01_n_n_01_2_111664).siIdx (ix4 0 i h e) ⟨List.idxOf (1 : Fin 4) (gather_S1x4096x16x64_S1x16x2_S1x16x16x64_23_01_n_n_01_2_111664).startIndexMap,
        List.idxOf_lt_length_iff.2 (List.mem_cons_of_mem _ (List.mem_singleton.mpr rfl))⟩ = ix3 0 i 1 := by
      funext b; refine Fin.ext ?_
      match b with
      | ⟨0, _⟩ => rfl
      | ⟨1, _⟩ => rfl
      | ⟨2, _⟩ => rfl
    rw [hsi, hp, BitVec.toInt_eq_toNat_of_lt (by omega), Int.toNat_natCast]
    exact Nat.min_eq_left (show (g (ix2 0 i)).toNat ≤ 4096 - 1 by omega)
  | ⟨2, _⟩ =>
    show (gather_S1x4096x16x64_S1x16x2_S1x16x16x64_23_01_n_n_01_2_111664).start (ix4 0 i h e) (pairs g) 2
      + (gather_S1x4096x16x64_S1x16x2_S1x16x16x64_23_01_n_n_01_2_111664).batchCoord (ix4 0 i h e) 2
      + (gather_S1x4096x16x64_S1x16x2_S1x16x16x64_23_01_n_n_01_2_111664).offCoord (ix4 0 i h e) 2 = h.val
    rw [GatherDims.batchCoord_eq_zero _ _ _ List.not_mem_nil]
    unfold GatherDims.start
    rw [dif_neg (show (2 : Fin 4) ∉ gather_S1x4096x16x64_S1x16x2_S1x16x16x64_23_01_n_n_01_2_111664.startIndexMap from show (2 : Fin 4) ∉ [0, 1] by decide)]
    unfold GatherDims.offCoord
    rw [dif_pos (show (2 : Fin 4) ∈ (gather_S1x4096x16x64_S1x16x2_S1x16x16x64_23_01_n_n_01_2_111664).sKept from (GatherDims.mem_sKept _ _).mpr ⟨show (2 : Fin 4) ∉ [0, 1] by decide, List.not_mem_nil⟩)]
    simp only [Nat.zero_add, Nat.add_zero]
    rfl
  | ⟨3, _⟩ =>
    show (gather_S1x4096x16x64_S1x16x2_S1x16x16x64_23_01_n_n_01_2_111664).start (ix4 0 i h e) (pairs g) 3
      + (gather_S1x4096x16x64_S1x16x2_S1x16x16x64_23_01_n_n_01_2_111664).batchCoord (ix4 0 i h e) 3
      + (gather_S1x4096x16x64_S1x16x2_S1x16x16x64_23_01_n_n_01_2_111664).offCoord (ix4 0 i h e) 3 = e.val
    rw [GatherDims.batchCoord_eq_zero _ _ _ List.not_mem_nil]
    unfold GatherDims.start
    rw [dif_neg (show (3 : Fin 4) ∉ gather_S1x4096x16x64_S1x16x2_S1x16x16x64_23_01_n_n_01_2_111664.startIndexMap from show (3 : Fin 4) ∉ [0, 1] by decide)]
    unfold GatherDims.offCoord
    rw [dif_pos (show (3 : Fin 4) ∈ (gather_S1x4096x16x64_S1x16x2_S1x16x16x64_23_01_n_n_01_2_111664).sKept from (GatherDims.mem_sKept _ _).mpr ⟨show (3 : Fin 4) ∉ [0, 1] by decide, List.not_mem_nil⟩)]
    simp only [Nat.zero_add, Nat.add_zero]
    rfl

end Cert.ReferenceIdeal.Value
-- ==== Proof.Reference.Rows.lean ====
module

public import proofs.«01_k».proof.Proof.Reference.Gather
public import proofs.«01_k».proof.Proof.Softmax
public import Idealize.ShloMosaic.PureOps.Reduce

@[expose] public section

set_option maxRecDepth 16384

noncomputable section

namespace Cert.ReferenceIdeal.Value

open Idealize.ShloMosaic
open Cert.ReferenceIdeal Cert.ReferenceIdeal.Gen
open Cert.KernelIdeal.Value (Near)
open Cert.Inputs (IsReal)
open Cert.Attn
open scoped BigOperators

/-! # The reference's attended rows -/

/-- The row's greatest score is its fold, or negative infinity if greater. -/
theorem rowMax_apply (p : FVec Ideal S1x4096x16x4112 .f32) (y : S1x4096x16.Idx) :
    rowMax p y = FloatOps.maximumf (F := Ideal) (φ := .f32) (FloatOps.ofBits .f32 0xFF800000#32) (rowFold p y) :=
  maximumf_apply _ _ _

/-- The row's fold over the set of its scores. -/
theorem rowFold_apply (p : FVec Ideal S1x4096x16x4112 .f32) (y : S1x4096x16.Idx) :
    rowFold p y = (Finset.univ.filter fun i => reducesTo_S1x4096x16x4112_S1x4096x16_d3.drop i = y).fold
      (FloatOps.maximumf (F := Ideal) (φ := .f32)) (FloatOps.ofBits .f32 0xFF800000#32) p := by
  unfold rowFold
  exact Host.reduce_eq_fold (FloatOps.maximumf (F := Ideal) (φ := .f32)) p _ _ _ y

/-- Every score of a row drops to the row. -/
theorem row_drop (s : Fin 4096) (h : Fin 16) (j : Fin 4112) :
    reducesTo_S1x4096x16x4112_S1x4096x16_d3.drop (ix4 0 s h j) = ix3 0 s h := by
  funext k
  match k with
  | ⟨0, _⟩ => exact Subsingleton.elim (α := Fin 1) _ _
  | ⟨1, _⟩ => exact Fin.ext (Shape.ReducesTo.drop_apply_val_of_eq reducesTo_S1x4096x16x4112_S1x4096x16_d3 (ix4 0 s h j) 1 1)
  | ⟨2, _⟩ => exact Fin.ext (Shape.ReducesTo.drop_apply_val_of_eq reducesTo_S1x4096x16x4112_S1x4096x16_d3 (ix4 0 s h j) 2 2)

/-- The word for negative infinity. -/
theorem bits_bot : (FloatOps.ofBits (F := Ideal) .f32 0xFF800000#32 : EReal) = ⊥ := by simp [FloatOps.ofBits, Ideal.ofBits, Ideal.ieee]

/-- The row's greatest score as a fold from negative infinity. -/
theorem rowFold_bot (p : FVec Ideal S1x4096x16x4112 .f32) (y : S1x4096x16.Idx) :
    rowMax p y = (Finset.univ.filter fun i => reducesTo_S1x4096x16x4112_S1x4096x16_d3.drop i = y).fold
      (FloatOps.maximumf (F := Ideal) (φ := .f32)) (⊥ : EReal) p := by
  rw [rowMax_apply, rowFold_apply, bits_bot]
  exact max_eq_right bot_le

/-- The greatest score of a row is real when no score is positive infinity and the first is real. -/
theorem rowMax_real (p : FVec Ideal S1x4096x16x4112 .f32) (s : Fin 4096) (h : Fin 16) (hp : ∀ y, p y ≠ (⊤ : EReal))
    (h0 : p (ix4 0 s h 0) ≠ (⊥ : EReal)) : IsReal (rowMax p (ix3 0 s h)) := by
  have hf := fold_greater_real (FloatOps.maximumf (F := Ideal) (φ := .f32)) (by funext a b; rfl)
    (Finset.univ.filter fun i => reducesTo_S1x4096x16x4112_S1x4096x16_d3.drop i = ix3 0 s h) p hp (ix4 0 s h 0)
    (Finset.mem_filter.2 ⟨Finset.mem_univ _, row_drop s h 0⟩) h0
  rw [← rowFold_bot p (ix3 0 s h)] at hf
  exact hf

/-- The sum over a row of scores: first the chosen positions, then the sequence. -/
theorem sum_row (f : Fin 4112 → EReal) :
    ∑ j, f j = ∑ i : Fin 16, f ⟨i.val, by omega⟩ + ∑ t : Fin 4096, f ⟨16 + t.val, by omega⟩ :=
  Fin.sum_univ_add (a := 16) (b := 4096) f

/-- The score of query `s` against key `t` of head `h`, over eight. -/
def score (q k : Fin 4096 → Fin 16 → Fin 64 → ℝ) (s t : Fin 4096) (h : Fin 16) : ℝ := ∑ e : Fin 64, k t h e * (q s h e * 8⁻¹)

/-- The reference's attended entry is the weighted mean of the values. -/
theorem reference_attend (x : FVec Ideal S1x4096x1024 .f32) (g : IVec S1x16 32) (wq wk wv : FVec Ideal S1024x1024 .f32)
    (hg : ∀ i, (g (ix2 0 i)).toNat < 512) (q k : Fin 4096 → Fin 16 → Fin 64 → ℝ)
    (hq : ∀ s h e, heads x wq (ix4 0 s h e) = (q s h e : EReal)) (hk : ∀ s h e, heads x wk (ix4 0 s h e) = (k s h e : EReal))
    (s : Fin 4096) (h : Fin 16) (e : Fin 64) :
    attendChosen x wv g (probs (scores x g wq wk)) (ix4 0 s h e) + attendNear x wv (probs (scores x g wq wk)) (ix4 0 s h e)
      = attend (fun i => score q k s ⟨(g (ix2 0 i)).toNat, (hg i).trans (by decide)⟩ h) (fun t => score q k s t h) (Near s)
          (fun i => heads x wv (ix4 0 ⟨(g (ix2 0 i)).toNat, (hg i).trans (by decide)⟩ h e)) (fun t => heads x wv (ix4 0 t h e)) := by
  have hqh : ∀ s h e, queryHeads x wq (ix4 0 s h e) = ((q s h e * 8⁻¹ : ℝ) : EReal) := fun s h e => by
    rw [queryHeads_apply, div_real _ _ (by norm_num), hq, EReal.coe_mul]
  have hsum : ∀ s t h, ∑ e : Fin 64, heads x wk (ix4 0 t h e) * queryHeads x wq (ix4 0 s h e) = (score q k s t h : EReal) := fun s t h => by
    unfold score
    rw [coe_sum]
    exact Finset.sum_congr rfl fun e _ => by rw [hk, hqh, ← EReal.coe_mul]
  have hc : ∀ s h i, scores x g wq wk (ix4 0 s h ⟨i.val, by omega⟩) = (score q k s ⟨(g (ix2 0 i)).toNat, (hg i).trans (by decide)⟩ h : EReal) := fun s h i => by
    rw [scores_chosen, ← hsum]
    exact Finset.sum_congr rfl fun e _ => by rw [chosen_apply _ _ _ _ _ _ (hg i)]
  have hn : ∀ s h t, scores x g wq wk (ix4 0 s h ⟨16 + t.val, by omega⟩) = if Near s t then (score q k s t h : EReal) else ⊥ := fun s h t => by
    rw [scores_near, hsum]
    by_cases hh : Near s t
    · rw [if_pos hh, if_pos ((nearMask_apply s t).2 hh)]
    · rw [if_neg hh, if_neg fun h' => hh ((nearMask_apply s t).1 h')]
  have htop : ∀ y, scores x g wq wk y ≠ ⊤ := fun y => by
    obtain ⟨s, h, j, rfl⟩ : ∃ (s : Fin 4096) (h : Fin 16) (j : Fin 4112), y = ix4 0 s h j := by
      obtain ⟨b, s, h, j, hy⟩ : ∃ (b : Fin 1) (s : Fin 4096) (h : Fin 16) (j : Fin 4112), y = ix4 b s h j :=
        ⟨y 0, y 1, y 2, y 3, by idx_vars y⟩
      exact ⟨s, h, j, by rw [hy, Subsingleton.elim b 0]⟩
    by_cases hj : j.val < 16
    · rw [show j = ⟨(⟨j.val, hj⟩ : Fin 16).val, by omega⟩ from rfl, hc]
      exact EReal.coe_ne_top _
    · rw [show j = ⟨16 + (⟨j.val - 16, by omega⟩ : Fin 4096).val, by simp only; omega⟩ from Fin.ext (by simp only; omega), hn]
      split
      · exact EReal.coe_ne_top _
      · exact bot_ne_top
  obtain ⟨r, hr⟩ := rowMax_real (scores x g wq wk) s h htop
    (by rw [show (0 : Fin 4112) = ⟨(0 : Fin 16).val, by decide⟩ from rfl, hc]; exact EReal.coe_ne_bot _)
  rw [attendChosen_apply, attendNear_apply]
  simp only [probs_apply, chosen_apply _ _ _ _ _ _ (hg _)]
  rw [sum_row]
  simp only [weights_apply, hr, hc, hn, mul_comm (heads x wv _)]
  exact softmax_attend _ _ _ _ _ r _ _ _ (fun _ => rfl) (fun _ => rfl) rfl

end Cert.ReferenceIdeal.Value
-- ==== Proof.Value.HeadAttend.lean ====
module

public import proofs.«01_k».proof.Proof.Value.AttnArray
public import proofs.«01_k».proof.Proof.Value.Rows
public import proofs.«01_k».proof.Proof.Reference.Rows

@[expose] public section

set_option maxRecDepth 16384

noncomputable section

namespace Cert.KernelIdeal.Value

open Idealize.ShloMosaic
open Cert.KernelIdeal Cert.KernelIdeal.Gen
open Cert.ReferenceIdeal.Value (score)
open Cert.Attn
open scoped BigOperators

/-! # The kernel's attended entry is the weighted mean of the values -/

/-- The kernel's factor is one eighth over the logarithm of two. -/
theorem scale_eq : scale = 8⁻¹ * (Real.log 2)⁻¹ := by
  unfold scale
  rw [show (64 : ℝ) = 8 ^ 2 by norm_num, Real.sqrt_sq (by norm_num), mul_comm]

/-- Scaled queries against a key: the score over the logarithm of two. -/
theorem scaled_score (q k : Fin 4096 → Fin 16 → Fin 64 → ℝ) (s t : Fin 4096) (h : Fin 16) (f g : Fin 64 → EReal)
    (hf : ∀ e, f e = ((q s h e * scale : ℝ) : EReal)) (hg : ∀ e, g e = (k t h e : EReal)) :
    ∑ e, f e * g e = ((score q k s t h * (Real.log 2)⁻¹ : ℝ) : EReal) := by
  unfold score
  rw [Finset.sum_mul, coe_sum]
  refine Finset.sum_congr rfl fun e _ => ?_
  rw [hf, hg, ← EReal.coe_mul, scale_eq]
  congr 1
  ring

/-- One head's entry of a query, for real queries and keys. -/
theorem headAt_attend (q k v : Vec Ideal S4096x1024 .bf16) (sk sv : Vec Ideal S16x1024 .bf16) (gi : Fin 16 → Fin 4096)
    (qr kr : Fin 4096 → Fin 16 → Fin 64 → ℝ)
    (hq : ∀ s h e, q (ix2 s (col h e)) = ((qr s h e * scale : ℝ) : EReal))
    (hk : ∀ s h e, k (ix2 s (col h e)) = (kr s h e : EReal))
    (hsk : ∀ i h e, sk (ix2 i (col h e)) = (kr (gi i) h e : EReal))
    (s : Fin 4096) (h : Fin 16) (e : Fin 64) :
    headAt q k v sk sv s h e = attend (fun i => score qr kr s (gi i) h) (fun t => score qr kr s t h) (Near s)
      (fun i => sv (ix2 i (col h e))) (fun t => v (ix2 t (col h e))) := by
  have hw : ∀ t, nearWeight q k h s t = (mass (fun t => score qr kr s t h) (Near s) t : EReal) := fun t => by
    unfold nearWeight mass
    rw [scaled_score qr kr s t h _ _ (fun e => hq s h e) (fun e => hk t h e)]
    split
    · rw [add_zero, exp2_scaled]
    · rw [EReal.add_bot, Ideal.exp2_bot, EReal.coe_zero]
  have hc : ∀ i, chosenWeight q sk h s i = (Real.exp (score qr kr s (gi i) h) : EReal) := fun i => by
    unfold chosenWeight
    rw [scaled_score qr kr s (gi i) h _ _ (fun e => hq s h e) (fun e => hsk i h e), exp2_scaled]
  unfold headAt
  have hs := s.isLt
  refine window_attend _ _ _ _ _ (first (blockOf s).val) (by unfold first; omega) (fun t ht => ?_) _ _ _ (fun w => hw _) (fun _ => rfl) hc
  unfold Near at ht
  unfold first blockOf
  simp only
  omega

end Cert.KernelIdeal.Value
-- ==== Proof.Equation.lean ====
module

public import proofs.«01_k».proof.Proof.Value.Result
public import proofs.«01_k».proof.Proof.Value.HeadAttend

@[expose] public section

set_option maxRecDepth 16384

noncomputable section

namespace Cert.Equation

open Idealize.ShloMosaic Idealize.ShloMosaic.TcCoe Idealize.SL.Sem
open Cert.KernelIdeal Cert.KernelIdeal.Gen Cert.KernelIdeal.Run Cert.KernelIdeal.Value
open Cert.ReferenceIdeal.Value (heads whole score reference_attend)
open Cert.Inputs (IsReal)
open Cert.Attn
open scoped BigOperators

/-! # The kernel's result and the reference's agree -/

variable (X : Vec Ideal S4096x1024 .f32) (x : FVec Ideal S1x4096x1024 .f32) (hX : ∀ s k, X (ix2 s k) = x (ix3 0 s k))
include hX

/-- The kernel's projected array holds the reference's heads side by side. -/
theorem project_heads (w : FVec Ideal S1024x1024 .f32) (s : Fin 4096) (h : Fin 16) (e : Fin 64) :
    project X w (ix2 s (col h e)) = heads x w (ix4 0 s h e) := by
  rw [Cert.ReferenceIdeal.Value.heads_apply]
  unfold project
  exact Finset.sum_congr rfl fun k _ => congrArg (· * _) (hX s k)

/-- The kernel's query array holds the reference's query heads, scaled. -/
theorem queries_heads (w : FVec Ideal S1024x1024 .f32) (s : Fin 4096) (h : Fin 16) (e : Fin 64) :
    queries X w (ix2 s (col h e)) = heads x w (ix4 0 s h e) * (scale : EReal) :=
  congrArg (· * (scale : EReal)) (project_heads X x hX w s h e)

/-- The kernel's chosen rows are the reference's heads at the chosen positions. -/
theorem rows_heads (g : IVec S1x16 32) (w : FVec Ideal S1024x1024 .f32) (hg : ∀ y : S1x16.Idx, (g y).toNat < 512)
    (i : Fin 16) (h : Fin 16) (e : Fin 64) :
    projectRows X g w hg (ix2 i (col h e)) = heads x w (ix4 0 ⟨(g (ix2 0 i)).toNat, (hg _).trans (by decide)⟩ h e) :=
  project_heads X x hX w ⟨(g (ix2 0 i)).toNat, (hg _).trans (by decide)⟩ h e

omit hX in
/-- A projection of real inputs is real. -/
theorem heads_real (w : FVec Ideal S1024x1024 .f32) (hx : ∀ y, IsReal (x y)) (hw : ∀ y, IsReal (w y)) (s : Fin 4096) (h : Fin 16) (e : Fin 64) :
    IsReal (heads x w (ix4 0 s h e)) := by
  rw [Cert.ReferenceIdeal.Value.heads_apply]
  exact IsReal.sum _ _ fun k => IsReal.mul (hx _) (hw _)

/-- The kernel's result entry is the reference's, for real hidden states, query and key projections and chosen
positions in the first block. -/
theorem entry_eq (g : IVec S1x16 32) (wq wk wv wo : FVec Ideal S1024x1024 .f32) (hg : ∀ y : S1x16.Idx, (g y).toNat < 512)
    (hx : ∀ y, IsReal (x y)) (hq : ∀ y, IsReal (wq y)) (hk : ∀ y, IsReal (wk y)) (s : Fin 4096) (n : Fin 1024) :
    ∑ k : Fin 1024, headAt (queries X wq) (project X wk) (project X wv) (projectRows X g wk hg) (projectRows X g wv hg)
        s (headIx k) (laneIx k) * wo (ix2 k n)
      = whole x g wq wk wv wo (ix3 0 s n) := by
  choose q hq' using heads_real x wq hx hq
  choose k hk' using heads_real x wk hx hk
  rw [Cert.ReferenceIdeal.Value.whole_apply]
  refine Finset.sum_congr rfl fun c _ => congrArg (· * _) ?_
  rw [reference_attend x g wq wk wv (fun i => hg _) q k hq' hk',
    headAt_attend _ _ _ _ _ (fun i => ⟨(g (ix2 0 i)).toNat, (hg _).trans (by decide)⟩) q k
      (fun s h e => by rw [queries_heads X x hX, hq', EReal.coe_mul])
      (fun s h e => by rw [project_heads X x hX, hk'])
      (fun i h e => by rw [rows_heads X x hX, hk'])]
  simp only [rows_heads X x hX, project_heads X x hX]
  rfl

end Cert.Equation
-- ==== Proof.Algebraic.lean ====
module

public import proofs.«01_k».proof.Defs
public import proofs.«01_k».proof.Proof.Equation
public import proofs.«01_k».proof.Proof.Frames

@[expose] public section

set_option maxRecDepth 16384

noncomputable section

namespace Cert.Algebraic

open Idealize.ShloMosaic Idealize.ShloMosaic.TcCoe Idealize.SL.Sem

/-! # The value claim -/

/-- From arguments that meet the second precondition, the idealized kernel's result array is the reference's. -/
theorem result_eq (m : (ℓ : Loc Cert.KernelIdeal.nD Cert.KernelIdeal.τ Cert.KernelIdeal.sig) → Buf (Elt Ideal) ℓ)
    (c : Dev Cert.KernelIdeal.nD)
    (h : Cert.Pre_KernelIdeal_inputs_finite m) :
    Cert.ReferenceIdeal.Value.whole (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      = (Cert.KernelIdeal.Gen.V4 m (Cert.KernelIdeal.Run.allOuts m) c Cert.KernelIdeal.main_v2 : Vec Ideal Cert.KernelIdeal.S1x4096x1024 .f32) := by
  obtain ⟨hg, hx, hq, hk⟩ := Cert.Inputs.finite_inputs _ _ _ _ _ _ (h c)
  funext y
  obtain ⟨b, s, n, rfl⟩ : ∃ (b : Fin 1) (s : Fin 4096) (n : Fin 1024), y = ix3 b s n := ⟨y 0, y 1, y 2, by idx_vars y⟩
  obtain rfl : b = 0 := Subsingleton.elim b 0
  exact ((Cert.KernelIdeal.Value.kernel_result m c hg s n).trans
    (Cert.Equation.entry_eq _ _ (Cert.KernelIdeal.Value.hidden_entry m c) _ _ _ _ _ hg hx hq hk s n)).symm

/-- From arguments that meet the second precondition, every run of the idealized kernel and every run of the
reference on the same arguments end with the same result, the arguments unchanged. -/
theorem algebraic : Cert.algebraic_KernelIdeal_ReferenceIdeal_pre_inputs_finite := by
  intro m ρ m' ρ' h hagree
  refine ⟨fun c => Cert.KernelIdeal.Gen.V4 m (Cert.KernelIdeal.Run.allOuts m) c Cert.KernelIdeal.main_v2,
    (θ_run Cert.KernelIdeal.defs _ _).mono (fun r q => ?_)
      (Cert.KernelIdeal.Run.whole_run (F := Ideal) m (Cert.KernelIdeal.Run.index_words m
        (fun c y => (Cert.Inputs.finite_inputs _ _ _ _ _ _ (h c)).1 y)) ρ), ?_⟩
  · exact fun c => ⟨(q.1 c).2.2.2.2.2.2, (q.1 c).1, (q.1 c).2.1, (q.1 c).2.2.1, (q.1 c).2.2.2.1, (q.1 c).2.2.2.2.1, (q.1 c).2.2.2.2.2.1⟩
  · refine (θ_run Cert.ReferenceIdeal.defs _ _).mono (fun r q c => ⟨(q c).1.trans ?_, (q c).2⟩)
      (Cert.ReferenceIdeal.Value.run (F := Ideal) m' ρ')
    obtain ⟨a0, a1, a2, a3, a4, a5⟩ := hagree c
    rw [Cert.ReferenceIdeal.Value.result_whole, a0, a1, a2, a3, a4, a5]
    exact result_eq m c h

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Pre_inputs_ok
public import proofs.«01_k».proof.Proof.Gen.Pre_inputs_finite
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim: the five frames, the named constant, and the value. -/
theorem claim : Cert.Claim := ⟨Cert.Kernel.Gen.facts, Cert.KernelIdeal.Gen.facts, Cert.ReferenceIdeal.Gen.facts, Cert.Pre_inputs_ok.Gen.facts, Cert.Pre_inputs_finite.Gen.facts,
  Cert.Frames.frame_p, Cert.Frames.frame_pi, Cert.Frames.frame_pi_finite, Cert.Frames.frame_ri, Cert.Frames.frame_ri_finite,
  Cert.Frames.preserves, Cert.Algebraic.algebraic⟩

end Cert.Proof

end
